-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mined [hPre_mined : Cert.Pre_mined.Facts] (m : (ℓ : Loc Cert.KernelIdeal.nD Cert.KernelIdeal.τ Cert.KernelIdeal.sig) → Buf (Elt Ideal) ℓ) : Prop :=
  ∀ c : Dev Cert.KernelIdeal.nD,
    (Cert.Pre_mined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mined [hPre_mined : Cert.Pre_mined.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_mined [hKernelIdeal : Cert.KernelIdeal.Facts] [hPre_mined : Cert.Pre_mined.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mined m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_mined [hReferenceIdeal : Cert.ReferenceIdeal.Facts] [hPre_mined : Cert.Pre_mined.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mined m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "log2e_over_t" .f32 0x4166D4CA#32 (((134217728 / 13421773) * (Real.log 2)⁻¹ : ℝ) : EReal)

def algebraic_KernelIdeal_ReferenceIdeal_pre_mined [hKernelIdeal : Cert.KernelIdeal.Facts] [hReferenceIdeal : Cert.ReferenceIdeal.Facts] [hPre_mined : Cert.Pre_mined.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mined m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_mined : Cert.Pre_mined.Facts),
    quiescent_Kernel (hKernel := hKernel)
    ∧ quiescent_KernelIdeal (hKernelIdeal := hKernelIdeal)
    ∧ quiescent_KernelIdeal_pre_mined (hKernelIdeal := hKernelIdeal) (hPre_mined := hPre_mined)
    ∧ quiescent_ReferenceIdeal (hReferenceIdeal := hReferenceIdeal)
    ∧ quiescent_ReferenceIdeal_pre_mined (hReferenceIdeal := hReferenceIdeal) (hPre_mined := hPre_mined)
    ∧ preserves_Kernel_KernelIdeal
    ∧ algebraic_KernelIdeal_ReferenceIdeal_pre_mined (hKernelIdeal := hKernelIdeal) (hReferenceIdeal := hReferenceIdeal) (hPre_mined := hPre_mined)
-- ==== Pre_mined.lean ====
abbrev S4096x128 : Shape := ⟨2, ![4096, 128]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S128x4096 : Shape := ⟨2, ![128, 4096]⟩
abbrev S4096x3 : Shape := ⟨2, ![4096, 3]⟩

class Facts : Prop where
  bcast_S4096_S1x4096_1 : S4096.BroadcastsInDim S1x4096 (![1] : Fin 1 → Fin S1x4096.rank)
  bcast_S4096_S4096x1_0 : S4096.BroadcastsInDim S4096x1 (![0] : Fin 1 → Fin S4096x1.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  transposes_S4096x128_S128x4096_1_0 : S4096x128.Transposes [1, 0] S128x4096
  sliceFits_S4096x4096_S4096x3 : S4096x4096.Slices (fun _ => 0) S4096x3
  bcast_S_S4096x3 : S_.BroadcastsInDim S4096x3 (![] : Fin 0 → Fin S4096x3.rank)
  bcast_S_S4096x128 : S_.BroadcastsInDim S4096x128 (![] : Fin 0 → Fin S4096x128.rank)
  reducesTo_S4096x128_S4096_d1 : S4096x128.ReducesTo [1] S4096
  h_S_ : 0 < S_.numel
  slices_S4096x3_S4096x1_0_0 : S4096x3.Slices ![0, 0] S4096x1
  shapeCasts_S4096x1_S4096 : S4096x1.ShapeCasts S4096
  slices_S4096x3_S4096x1_0_1 : S4096x3.Slices ![0, 1] S4096x1
  slices_S4096x3_S4096x1_0_2 : S4096x3.Slices ![0, 2] S4096x1
  bcast_S_S4096 : S_.BroadcastsInDim S4096 (![] : Fin 0 → Fin S4096.rank)
  dot_S4096x128_S128x4096_S4096x4096_1_0_0_1_n_n_wf : DotDims.WF S4096x128 S128x4096 S4096x4096 [1] [0] [0] [1] [] []

variable [Facts]

def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def fn_where {F : FTy → Type} [FloatOps F] (arg0 : IVec S4096x4096 1) (arg1 : FVec F S_ .f32) (arg2 : FVec F S4096x4096 .f32) : FVec F S4096x4096 .f32 :=
  let v0 : FVec F S_ .f32 := id arg1
  let v1 : FVec F S4096x4096 .f32 := broadcastInDim S4096x4096 ![] bcast_S_S4096x4096 v0
  let v2 : FVec F S4096x4096 .f32 := select arg0 v1 arg2
  v2

def fn_part2 {F : FTy → Type} [FloatOps F] (main_v18 : IVec S4096x3 32) (main_v22 : IVec S4096 1) (main_v33 : IVec S4096 1) (main_v37 : IVec S4096 1) (main_v38 : IVec S4096x1 32) : IVec S4096 1 :=
  let main_v39 : IVec S4096 32 := shapeCast S4096 main_v38 shapeCasts_S4096x1_S4096
  let main_v40 : IVec S4096x1 32 := (extractStridedSlice S4096x1 ![0, 1] · slices_S4096x3_S4096x1_0_1) main_v18
  let main_v41 : IVec S4096 32 := shapeCast S4096 main_v40 shapeCasts_S4096x1_S4096
  let main_v42 : IVec S4096 1 := cmpi .eq main_v39 main_v41
  let main_v43 : IVec S4096x1 32 := (extractStridedSlice S4096x1 ![0, 1] · slices_S4096x3_S4096x1_0_1) main_v18
  let main_v44 : IVec S4096 32 := shapeCast S4096 main_v43 shapeCasts_S4096x1_S4096
  let main_v45 : IVec S4096x1 32 := (extractStridedSlice S4096x1 ![0, 2] · slices_S4096x3_S4096x1_0_2) main_v18
  let main_v46 : IVec S4096 32 := shapeCast S4096 main_v45 shapeCasts_S4096x1_S4096
  let main_v47 : IVec S4096 1 := cmpi .eq main_v44 main_v46
  let main_v48 : IVec S4096 1 := andi main_v42 main_v47
  let main_v49 : IVec S4096 1 := andi main_v22 main_v33
  let main_v50 : IVec S4096 1 := andi main_v49 main_v37
  let main_v51 : IVec S4096 1 := noti main_v48
  let main_v52 : IVec S4096 1 := andi main_v50 main_v51
  main_v52

def fn_part1 {F : FTy → Type} [FloatOps F] (main_arg0 : FVec F S4096x128 .f32) (main_values : FVec F S4096x3 .f32) (main_indices : IVec S4096x3 32) (main_v17 : IVec S4096x3 32) : IVec S4096 1 :=
  let main_v18 : IVec S4096x3 32 := andi main_indices main_v17
  let main_v19 : FVec F S4096x128 .f32 := Host.absf main_arg0
  let main_cst_2 : FVec F S_ .f32 := constant S_ .f32 0x7F800000#32
  let main_v20 : FVec F S4096x128 .f32 := broadcastInDim S4096x128 ![] bcast_S_S4096x128 main_cst_2
  let main_v21 : IVec S4096x128 1 := cmpf .olt main_v19 main_v20
  let main_c_3 : IVec S_ 1 := constantI S_ 1 1#1
  let main_v22 : IVec S4096 1 := (fun x v => Host.reduce IntOp.andi x v reducesTo_S4096x128_S4096_d1 h_S_) main_v21 main_c_3
  let main_v23 : FVec F S4096x1 .f32 := (extractStridedSlice S4096x1 ![0, 0] · slices_S4096x3_S4096x1_0_0) main_values
  let main_v24 : FVec F S4096 .f32 := shapeCast S4096 main_v23 shapeCasts_S4096x1_S4096
  let main_v25 : FVec F S4096x1 .f32 := (extractStridedSlice S4096x1 ![0, 1] · slices_S4096x3_S4096x1_0_1) main_values
  let main_v26 : FVec F S4096 .f32 := shapeCast S4096 main_v25 shapeCasts_S4096x1_S4096
  let main_v27 : IVec S4096 1 := cmpf .ogt main_v24 main_v26
  let main_v28 : FVec F S4096x1 .f32 := (extractStridedSlice S4096x1 ![0, 1] · slices_S4096x3_S4096x1_0_1) main_values
  let main_v29 : FVec F S4096 .f32 := shapeCast S4096 main_v28 shapeCasts_S4096x1_S4096
  let main_v30 : FVec F S4096x1 .f32 := (extractStridedSlice S4096x1 ![0, 2] · slices_S4096x3_S4096x1_0_2) main_values
  let main_v31 : FVec F S4096 .f32 := shapeCast S4096 main_v30 shapeCasts_S4096x1_S4096
  let main_v32 : IVec S4096 1 := cmpf .ogt main_v29 main_v31
  let main_v33 : IVec S4096 1 := andi main_v27 main_v32
  let main_v34 : FVec F S4096x1 .f32 := (extractStridedSlice S4096x1 ![0, 2] · slices_S4096x3_S4096x1_0_2) main_values
  let main_v35 : FVec F S4096 .f32 := shapeCast S4096 main_v34 shapeCasts_S4096x1_S4096
  let main_cst_4 : FVec F S_ .f32 := constant S_ .f32 0xCE6E6B28#32
  let main_v36 : FVec F S4096 .f32 := broadcastInDim S4096 ![] bcast_S_S4096 main_cst_4
  let main_v37 : IVec S4096 1 := cmpf .ogt main_v35 main_v36
  let main_v38 : IVec S4096x1 32 := (extractStridedSlice S4096x1 ![0, 0] · slices_S4096x3_S4096x1_0_0) main_v18
  fn_part2 (F := F) main_v18 main_v22 main_v33 main_v37 main_v38

def fn {F : FTy → Type} [FloatOps F] (main_arg0 : FVec F S4096x128 .f32) (main_arg1 : IVec S4096 32) : IVec S4096 1 :=
  let main_v0 : IVec S1x4096 32 := broadcastInDim S1x4096 ![1] bcast_S4096_S1x4096_1 main_arg1
  let main_v1 : IVec S4096x1 32 := broadcastInDim S4096x1 ![0] bcast_S4096_S4096x1_0 main_arg1
  let main_v2 : IVec S4096x4096 32 := broadcastInDim S4096x4096 ![0, 1] bcast_S1x4096_S4096x4096_0_1 main_v0
  let main_v3 : IVec S4096x4096 32 := broadcastInDim S4096x4096 ![0, 1] bcast_S4096x1_S4096x4096_0_1 main_v1
  let main_v4 : IVec S4096x4096 1 := cmpi .eq main_v2 main_v3
  let main_v5 : IVec S4096x4096 32 := iotaInDim S4096x4096 32 0
  let main_v6 : IVec S4096x4096 32 := iotaInDim S4096x4096 32 1
  let main_c : IVec S_ 32 := constantI S_ 32 0#32
  let main_v7 : IVec S4096x4096 32 := broadcastInDim S4096x4096 ![] bcast_S_S4096x4096 main_c
  let main_v8 : IVec S4096x4096 32 := addi main_v5 main_v7
  let main_v9 : IVec S4096x4096 1 := cmpi .eq main_v8 main_v6
  let main_v10 : IVec S4096x4096 1 := noti main_v9
  let main_v11 : IVec S4096x4096 1 := andi main_v4 main_v10
  let main_v12 : FVec F S128x4096 .f32 := (transpose S128x4096 [1, 0] · transposes_S4096x128_S128x4096_1_0) main_arg0
  let main_v13 : FVec F S4096x4096 .f32 := (fun l r => Host.dotGeneral dot_S4096x128_S128x4096_S4096x4096_1_0_0_1_n_n none l r) main_arg0 main_v12
  let main_cst : FVec F S_ .f32 := constant S_ .f32 0x3DCCCCCD#32
  let main_v14 : FVec F S4096x4096 .f32 := broadcastInDim S4096x4096 ![] bcast_S_S4096x4096 main_cst
  let main_v15 : FVec F S4096x4096 .f32 := Host.divf main_v13 main_v14
  let main_cst_0 : FVec F S_ .f32 := constant S_ .f32 0xCE6E6B28#32
  let main_v16 : FVec F S4096x4096 .f32 := fn_where (F := F) main_v11 main_cst_0 main_v15
  let main_values : FVec F S4096x3 .f32 := (fun x => (Host.topK S4096x3 1 (FloatOps.cmpfTotal .gt) x sliceFits_S4096x4096_S4096x3).1) main_v16
  let main_indices : IVec S4096x3 32 := (fun x => (Host.topK S4096x3 1 (FloatOps.cmpfTotal .gt) x sliceFits_S4096x4096_S4096x3).2) main_v16
  let main_c_1 : IVec S_ 32 := constantI S_ 32 255#32
  let main_v17 : IVec S4096x3 32 := broadcastInDim S4096x3 ![] bcast_S_S4096x3 main_c_1
  fn_part1 (F := F) main_arg0 main_values main_indices main_v17
-- ==== Kernel.lean ====
abbrev S4096x128 : Shape := ⟨2, ![4096, 128]⟩
abbrev S4096 : Shape := ⟨1, ![4096]⟩
abbrev S1x4096 : Shape := ⟨2, ![1, 4096]⟩
abbrev S1x1 : Shape := ⟨2, ![1, 1]⟩
abbrev S256x128 : Shape := ⟨2, ![256, 128]⟩
abbrev S1x256 : Shape := ⟨2, ![1, 256]⟩
abbrev S256 : Shape := ⟨1, ![256]⟩
abbrev S256x256 : Shape := ⟨2, ![256, 256]⟩
abbrev S256x1 : Shape := ⟨2, ![256, 1]⟩
abbrev S256x512 : Shape := ⟨2, ![256, 512]⟩
abbrev S1 : Shape := ⟨1, ![1]⟩
abbrev S_ : Shape := ⟨0, ![]⟩

abbrev nBuf : Space → Nat
  | .hbm => 5
  | .vmem => 5
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S1x4096, .i32⟩
  | .hbm, ⟨3, _⟩ => ⟨S1x1, .f32⟩
  | .hbm, ⟨4, _⟩ => ⟨S_, .f32⟩
  | .local _ .vmem, ⟨0, _⟩ => ⟨S256x128, .f32⟩
  | .local _ .vmem, ⟨1, _⟩ => ⟨S256x128, .f32⟩
  | .local _ .vmem, ⟨2, _⟩ => ⟨S4096x128, .f32⟩
  | .local _ .vmem, ⟨3, _⟩ => ⟨S1x4096, .i32⟩
  | .local _ .vmem, ⟨4, _⟩ => ⟨S1x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c0_1 : Index := 0#32
  let arg0 : BitVec 32 := BitVec.ofNat 32 (i 0).val
  let c256_i32 : BitVec 32 := 256#32
  let v3 : BitVec 32 := Scalar.muli arg0 c256_i32
  let v4 : Index := Scalar.indexCast v3
  ![0, v4.toNat]
def k0_off2 (i : grid0.Coords) (c0_i32 : BitVec 32) : Fin 2 → Nat :=
  let arg0 : BitVec 32 := BitVec.ofNat 32 (i 0).val
  let v14 : BitVec 32 := Scalar.addi arg0 c0_i32
  let c16_i32 : BitVec 32 := 16#32
  let v15 : BitVec 32 := Scalar.remsi v14 c16_i32
  let c256_i32_5 : BitVec 32 := 256#32
  let v16 : BitVec 32 := Scalar.muli v15 c256_i32_5
  let v17 : Index := Scalar.indexCast v16
  let c0_6 : Index := 0#32
  ![v17.toNat, 0]
def k0_off3 (i : grid0.Coords) (c0_i32 : BitVec 32) : Fin 2 → Nat :=
  let c0_8 : Index := 0#32
  let arg0 : BitVec 32 := BitVec.ofNat 32 (i 0).val
  let v14 : BitVec 32 := Scalar.addi arg0 c0_i32
  let c16_i32 : BitVec 32 := 16#32
  let v15 : BitVec 32 := Scalar.remsi v14 c16_i32
  let c256_i32_5 : BitVec 32 := 256#32
  let v16 : BitVec 32 := Scalar.muli v15 c256_i32_5
  let v20 : Index := Scalar.indexCast v16
  ![0, v20.toNat]
def k0_cond1 (i : grid0.Coords) : BitVec 1 :=
  let arg0 : BitVec 32 := BitVec.ofNat 32 (i 0).val
  let c0_i32_127 : BitVec 32 := 0#32
  let v418 : BitVec 1 := Scalar.cmpi .eq arg0 c0_i32_127
  let v419 : BitVec 32 := Scalar.extui v418
  let c0_i32_128 : BitVec 32 := 0#32
  let v420 : BitVec 1 := Scalar.cmpi .ne v419 c0_i32_128
  v420

def k0_cond2 (i : grid0.Coords) : BitVec 1 :=
  let arg0 : BitVec 32 := BitVec.ofNat 32 (i 0).val
  let c0_i32_129 : BitVec 32 := 0#32
  let v421 : BitVec 1 := Scalar.cmpi .ne arg0 c0_i32_129
  let v422 : BitVec 32 := Scalar.extui v421
  let c0_i32_130 : BitVec 32 := 0#32
  let v423 : BitVec 1 := Scalar.cmpi .ne v422 c0_i32_130
  v423

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "log2e_over_t" => some (((134217728 / 13421773) * (Real.log 2)⁻¹ : ℝ) : EReal)
  | _ => none
-- ==== ReferenceIdeal.lean ====
abbrev S4096x128 : Shape := ⟨2, ![4096, 128]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S128x4096 : Shape := ⟨2, ![128, 4096]⟩
abbrev S4096x3 : Shape := ⟨2, ![4096, 3]⟩
abbrev S4096x3x1 : Shape := ⟨3, ![4096, 3, 1]⟩
abbrev S4096x3x2 : Shape := ⟨3, ![4096, 3, 2]⟩

abbrev nBuf : Space → Nat
  | .hbm => 79
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S1x4096, .i32⟩
  | .hbm, ⟨3, _⟩ => ⟨S4096x1, .i32⟩
  | .hbm, ⟨4, _⟩ => ⟨S4096x4096, .i32⟩
  | .hbm, ⟨5, _⟩ => ⟨S4096x4096, .i32⟩
  | .hbm, ⟨6, _⟩ => ⟨S4096x4096, .i1⟩
  | .hbm, ⟨7, _⟩ => ⟨S4096x4096, .f32⟩
  | .hbm, ⟨8, _⟩ => ⟨S4096x4096, .i32⟩
  | .hbm, ⟨9, _⟩ => ⟨S4096x4096, .i32⟩
  | .hbm, ⟨10, _⟩ => ⟨S_, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S128x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .i1⟩
  | .hbm, ⟨26, _⟩ => ⟨S4096x4096, .i1⟩
  | .hbm, ⟨27, _⟩ => ⟨S_, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096x3, .f32⟩
  | .hbm, ⟨32, _⟩ => ⟨S4096x3, .i32⟩
  | .hbm, ⟨33, _⟩ => ⟨S_, .f32⟩
  | .hbm, ⟨34, _⟩ => ⟨S4096x4096, .f32⟩
  | .hbm, ⟨35, _⟩ => ⟨S4096, .i32⟩
  | .hbm, ⟨36, _⟩ => ⟨S4096x1, .i32⟩
  | .hbm, ⟨37, _⟩ => ⟨S_, .i32⟩
  | .hbm, ⟨38, _⟩ => ⟨S4096x1, .i32⟩
  | .hbm, ⟨39, _⟩ => ⟨S4096x1, .i1⟩
  | .hbm, ⟨40, _⟩ => ⟨S_, .i32⟩
  | .hbm, ⟨41, _⟩ => ⟨S4096x1, .i32⟩
  | .hbm, ⟨42, _⟩ => ⟨S4096x1, .i32⟩
  | .hbm, ⟨43, _⟩ => ⟨S4096x1, .i32⟩
  | .hbm, ⟨44, _⟩ => ⟨S_, .i32⟩
  | .hbm, ⟨45, _⟩ => ⟨S4096x3, .i32⟩
  | .hbm, ⟨46, _⟩ => ⟨S4096x3, .i1⟩
  | .hbm, ⟨47, _⟩ => ⟨S_, .i32⟩
  | .hbm, ⟨48, _⟩ => ⟨S4096x3, .i32⟩
  | .hbm, ⟨49, _⟩ => ⟨S4096x3, .i32⟩
  | .hbm, ⟨50, _⟩ => ⟨S4096x3, .i32⟩
  | .hbm, ⟨51, _⟩ => ⟨S4096x3, .i32⟩
  | .hbm, ⟨52, _⟩ => ⟨S4096x3x1, .i32⟩
  | .hbm, ⟨53, _⟩ => ⟨S4096x3x1, .i32⟩
  | .hbm, ⟨54, _⟩ => ⟨S4096x3x2, .i32⟩
  | .hbm, ⟨55, _⟩ => ⟨S_, .f32⟩
  | .hbm, ⟨56, _⟩ => ⟨S4096x3, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S_, .f32⟩
  | .hbm, ⟨61, _⟩ => ⟨S4096, .f32⟩
  | .hbm, ⟨62, _⟩ => ⟨S_, .f32⟩
  | .hbm, ⟨63, _⟩ => ⟨S4096, .f32⟩
  | .hbm, ⟨64, _⟩ => ⟨S4096, .f32⟩
  | .hbm, ⟨65, _⟩ => ⟨S4096x4096, .f32⟩
  | .hbm, ⟨66, _⟩ => ⟨S_, .f32⟩
  | .hbm, ⟨67, _⟩ => ⟨S4096, .f32⟩
  | .hbm, ⟨68, _⟩ => ⟨S_, .f32⟩
  | .hbm, ⟨69, _⟩ => ⟨S4096, .f32⟩
  | .hbm, ⟨70, _⟩ => ⟨S4096, .f32⟩
  | .hbm, ⟨71, _⟩ => ⟨S4096, .f32⟩
  | .hbm, ⟨72, _⟩ => ⟨S4096, .f32⟩
  | .hbm, ⟨73, _⟩ => ⟨S4096, .f32⟩
  | .hbm, ⟨74, _⟩ => ⟨S4096, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_call1_v0 : Ref sig .tc := ⟨.hbm, 28, rfl⟩
abbrev main_call1_v1 : Ref sig .tc := ⟨.hbm, 29, rfl⟩
abbrev main_v19 : Ref sig .tc := ⟨.hbm, 30, rfl⟩
abbrev main_values : Ref sig .tc := ⟨.hbm, 31, rfl⟩
abbrev main_indices : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_cst_12 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_13 : Ref sig .tc := ⟨.hbm, 75, rfl⟩
abbrev main_v52 : Ref sig .tc := ⟨.hbm, 76, rfl⟩
abbrev main_cst_14 : Ref sig .tc := ⟨.hbm, 77, rfl⟩
abbrev main_v53 : Ref sig .tc := ⟨.hbm, 78, rfl⟩

abbrev nD : Nat := 1
abbrev τ : Topo := Topo.v7x

variable {F : FTy → Type} [FloatOps F]
-- ==== Proof.Body.lean ====
/- What the kernel's body leaves in its output block at a grid point: the sixteen slices' steps written once, as a
   recursion, and the printed payloads brought to it. -/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F] [Named F]

/-- The feature rows of the slice visited at step `k` of grid point `i`. -/
def rowsAt (x1 : Vec F S4096x128 .f32) (i : grid0.Coords) (k : Fin 16) : Vec F S256x128 .f32 :=
  fun y => x1 ((Rect.unit (s := S4096x128) (k0_off2 i (BitVec.ofNat 32 k.val)) S256x128.size (k0_off2_inb i k)).idx y)

/-- The labels of the slice visited at step `k` of grid point `i`. -/
def labsAt (x2 : Vec F S1x4096 .i32) (i : grid0.Coords) (k : Fin 16) : Vec F S1x256 .i32 :=
  fun y => x2 ((Rect.unit (s := S1x4096) (k0_off3 i (BitVec.ofNat 32 k.val)) S1x256.size (k0_off3_inb i k)).idx y)

/-- The labels of the row block. -/
def labsOwn (x2 : Vec F S1x4096 .i32) (i : grid0.Coords) : Vec F S1x256 .i32 :=
  fun y => x2 ((Rect.unit (s := S1x4096) (k0_off1 i) S1x256.size (k0_off1_inb i)).idx y)

/-- A block of negative infinities. -/
def lows : FVec F S256x256 .f32 := broadcast S256x256 (Scalar.ofBits .f32 0xFF800000#32)

/-- The similarities of the row block's features, scaled, with a slice's. -/
def sims (x0 fk : Vec F S256x128 .f32) : FVec F S256x256 .f32 :=
  matmul dot_S256x128_S256x128_S256x256_1_1_0_0_n_n none
    (mulf x0 (broadcast S256x128 (Named.named κ "log2e_over_t" 0x4166D4CA#32)) : FVec F S256x128 .f32) fk
    (constant S256x256 .f32 0x00000000#32)

/-- Which pairs have equal labels. -/
def same (lr lk : Vec F S1x256 .i32) : IVec S256x256 1 :=
  cmpi .eq
    (broadcastTo S256x256 (shapeCast S256x1 (shapeCast S256 lr shapeCasts_S1x256_S256) shapeCasts_S256_S256x1)
      broadcasts_S256x1_S256x256)
    (broadcastTo S256x256 (shapeCast S1x256 (shapeCast S256 lk shapeCasts_S1x256_S256) shapeCasts_S256_S1x256)
      broadcasts_S1x256_S256x256)

/-- The pairs off the diagonal. -/
def offDiag : IVec S256x256 1 :=
  xori (cmpi .eq (iota .tc S256x256 32 [1] iota_S256x256_d1_w32)
      (broadcastTo S256x256 (iota .tc S256x1 32 [0] iota_S256x1_d0_w32) broadcasts_S256x1_S256x256))
    (constantI S256x256 1 1#1)

section Steps

variable (s : ℕ → FVec F S256x256 .f32) (p : ℕ → IVec S256x256 1)

/-- The running sums of the positives' exponentials. -/
def accN : ℕ → FVec F S256x256 .f32
  | 0 => broadcast S256x256 (Scalar.ofBits .f32 0x00000000#32)
  | n + 1 => addf (accN n) (exp2 (select (p n) (s n) lows))

/-- Each lane's largest negative so far. -/
def topN : ℕ → FVec F S256x256 .f32
  | 0 => lows
  | n + 1 => maximumf (topN n) (select (p n) lows (s n))

/-- Each lane's second largest negative so far. -/
def nextN : ℕ → FVec F S256x256 .f32
  | 0 => lows
  | n + 1 => maximumf (nextN n) (minimumf (topN s p n) (select (p n) lows (s n)))

end Steps

/-- The candidates of a row: what each lane kept. -/
def cand (r1 r2 : FVec F S256x256 .f32) : FVec F S256x512 .f32 :=
  concatenate S256x512 1 [⟨S256x256, r1⟩, ⟨S256x256, r2⟩] concatenates_S256x256_S256x256_S256x512_d1

/-- Each row's largest candidate. -/
def rowMax (x : FVec F S256x512 .f32) : FVec F S256 .f32 :=
  multiReduction .maximumf [1] S256 x 0xFF800000#32 reduces_S256x512_S256 (.inl rfl) rfl

/-- The candidates below a row's value. -/
def belowRow (x : FVec F S256x512 .f32) (M : FVec F S256 .f32) : FVec F S256x512 .f32 :=
  select (cmpf .olt x (broadcastTo S256x512 (shapeCast S256x1 M shapeCasts_S256_S256x1) broadcasts_S256x1_S256x512)) x
    (broadcast S256x512 (Scalar.ofBits .f32 0xFF800000#32))

/-- The sum of a row's exponentials of positives. -/
def posSum (acc : FVec F S256x256 .f32) : FVec F S256 .f32 :=
  multiReduction .add [1] S256 acc 0x00000000#32 reduces_S256x256_S256 (.inl rfl) rfl

/-- The losses of the rows, of the sums over the positives and over the three negatives. -/
def losses (ps ns : FVec F S256 .f32) : FVec F S256 .f32 :=
  subf (log (addf (addf ps (broadcast S256 (Scalar.ofBits .f32 0x2EDBE6FF#32)))
      (addf ns (broadcast S256 (Scalar.ofBits .f32 0x2EDBE6FF#32)))))
    (log (addf ps (broadcast S256 (Scalar.ofBits .f32 0x2EDBE6FF#32))))

/-- The three largest candidates' exponentials, summed. -/
def negSum (x : FVec F S256x512 .f32) : FVec F S256 .f32 :=
  addf (addf (exp2 (rowMax x)) (exp2 (rowMax (belowRow x (rowMax x)))))
    (exp2 (rowMax (belowRow (belowRow x (rowMax x)) (rowMax (belowRow x (rowMax x))))))

/-- The row block's share of the mean. -/
def share (l : FVec F S256 .f32) : FVec F S1x1 .f32 :=
  broadcast S1x1 (Scalar.mulf (extractAt ![0, 0]
    (shapeCast S1x1 (multiReduction .add [1] S1 (shapeCast S1x256 l shapeCasts_S256_S1x256) 0x00000000#32
      reduces_S1x256_S1 (.inl rfl) rfl) shapeCasts_S1_S1x1) inpos_S1x1_p0_0) (Scalar.ofBits .f32 0x39800000#32))

/-- The similarities of step `k` of grid point `i`. -/
def simsAt (x0 : Vec F S256x128 .f32) (x1 : Vec F S4096x128 .f32) (i : grid0.Coords) (k : ℕ) : FVec F S256x256 .f32 :=
  sims x0 (rowsAt x1 i (Fin.ofNat 16 k))

/-- The positives of step `k` of grid point `i`: equal labels, and off the diagonal in the row block's own slice. -/
def posAt (x2 : Vec F S1x4096 .i32) (i : grid0.Coords) : ℕ → IVec S256x256 1
  | 0 => andi (same (F := F) (labsOwn x2 i) (labsAt x2 i 0)) offDiag
  | k + 1 => same (F := F) (labsOwn x2 i) (labsAt x2 i (Fin.ofNat 16 (k + 1)))

/-- What grid point `i` adds to the output. -/
def part (i : grid0.Coords) (x0 : Vec F S256x128 .f32) (x1 : Vec F S4096x128 .f32) (x2 : Vec F S1x4096 .i32) : FVec F S1x1 .f32 :=
  share (losses (posSum (accN (simsAt x0 x1 i) (posAt (F := F) x2 i) 16))
    (negSum (cand (topN (simsAt x0 x1 i) (posAt (F := F) x2 i) 16) (nextN (simsAt x0 x1 i) (posAt (F := F) x2 i) 16))))

variable (m : (ℓ : Loc nD τ sig) → Buf (Elt F) ℓ)

/-- The first grid point leaves its own share. -/
theorem out_first (c : Dev nD) (t : Fin cfg0.N) (h0 : t.val % 16 = 0) (h1 : ¬1 ≤ t.val) :
    outsAt0 m c t.val t.isLt = part (grid0.coords t) (iblk m c 0 t) (iblk m c 1 t) (iblk m c 2 t) := by
  rw [outsAt0_A m c t h0 h1]
  frame_out
  generalize iblk m c 0 t = x0
  generalize iblk m c 1 t = x1
  generalize iblk m c 2 t = x2
  generalize grid0.coords t = i
  rfl

/-- A later grid point adds its own share. -/
theorem out_later (c : Dev nD) (t : Fin cfg0.N) (h0 : ¬t.val % 16 = 0) (h1 : 1 ≤ t.val) :
    outsAt0 m c t.val t.isLt
      = addf (outsAt0 m c (t.val - 1) (Nat.lt_of_le_of_lt (Nat.sub_le _ _) t.isLt))
          (part (grid0.coords t) (iblk m c 0 t) (iblk m c 1 t) (iblk m c 2 t)) := by
  rw [outsAt0_B m c t h0 h1]
  generalize outsAt0 m c (t.val - 1) (Nat.lt_of_le_of_lt (Nat.sub_le _ _) t.isLt) = prev
  frame_out
  generalize iblk m c 0 t = x0
  generalize iblk m c 1 t = x1
  generalize iblk m c 2 t = x2
  generalize grid0.coords t = i
  unfold k0_pay2
  dsimp only
  rw [shapeCast_self]
  rfl

end Cert.KernelIdeal.Body

end
-- ==== Proof.Top.lean ====
/- The two largest values kept per lane, and the three largest distinct values found among what the lanes kept. -/
module

public import Idealize.ShloMosaic.Lib.Claim
public import Idealize.ShloMosaic.Lib.Pointwise

@[expose] public section

namespace Cert.Proof.Top

/-- The two largest values among the first `n` of `v`, each initially `⊥`, one comparison step a value. -/
noncomputable def two (v : ℕ → EReal) : ℕ → EReal × EReal
  | 0 => (⊥, ⊥)
  | n + 1 => (max (two v n).1 (v n), max (two v n).2 (min (two v n).1 (v n)))

variable {v : ℕ → EReal}

theorem two_le (n : ℕ) : (two v n).2 ≤ (two v n).1 := by
  induction n with
  | zero => exact le_rfl
  | succ n ih => exact max_le (ih.trans (le_max_left _ _)) ((min_le_right _ _).trans (le_max_right _ _))

theorem le_two (n k : ℕ) (hk : k < n) : v k ≤ (two v n).1 := by
  induction n with
  | zero => omega
  | succ n ih =>
    rcases Nat.lt_succ_iff_lt_or_eq.1 hk with h | rfl
    · exact (ih h).trans (le_max_left _ _)
    · exact le_max_right _ _

/-- The first kept value is `⊥` or the value met at some place. -/
theorem two_fst (n : ℕ) : (two v n).1 = ⊥ ∨ ∃ a, a < n ∧ v a = (two v n).1 := by
  induction n with
  | zero => exact Or.inl rfl
  | succ n ih =>
    change max (two v n).1 (v n) = ⊥ ∨ ∃ a, a < n + 1 ∧ v a = max (two v n).1 (v n)
    rcases le_total (two v n).1 (v n) with h | h
    · rw [max_eq_right h]
      exact Or.inr ⟨n, n.lt_succ_self, rfl⟩
    · rw [max_eq_left h]
      exact ih.imp id fun ⟨a, ha, e⟩ => ⟨a, ha.trans n.lt_succ_self, e⟩

/-- The second kept value is `⊥`, or the two kept values are those met at two different places. -/
theorem two_snd (n : ℕ) : (two v n).2 = ⊥ ∨ ∃ a b, a < n ∧ b < n ∧ a ≠ b ∧ v a = (two v n).1 ∧ v b = (two v n).2 := by
  induction n with
  | zero => exact Or.inl rfl
  | succ n ih =>
    change max (two v n).2 (min (two v n).1 (v n)) = ⊥ ∨ ∃ a b, a < n + 1 ∧ b < n + 1 ∧ a ≠ b ∧
      v a = max (two v n).1 (v n) ∧ v b = max (two v n).2 (min (two v n).1 (v n))
    have hle := two_le (v := v) n
    rcases le_total (two v n).1 (v n) with h | h
    · rw [max_eq_right h, min_eq_left h, max_eq_right hle]
      rcases two_fst (v := v) n with e | ⟨a, ha, e⟩
      · exact Or.inl e
      · exact Or.inr ⟨n, a, n.lt_succ_self, ha.trans n.lt_succ_self, ha.ne', rfl, e⟩
    · rw [max_eq_left h, min_eq_right h]
      rcases le_total (two v n).2 (v n) with h' | h'
      · rw [max_eq_right h']
        rcases two_fst (v := v) n with e | ⟨a, ha, e⟩
        · exact Or.inl (le_bot_iff.1 (e ▸ h))
        · exact Or.inr ⟨a, n, ha.trans n.lt_succ_self, n.lt_succ_self, ha.ne, e, rfl⟩
      · rw [max_eq_left h']
        exact ih.imp id fun ⟨a, b, ha, hb, hab, ea, eb⟩ =>
          ⟨a, b, ha.trans n.lt_succ_self, hb.trans n.lt_succ_self, hab, ea, eb⟩

theorem le_two_snd (n k : ℕ) (hk : k < n) : v k ≤ (two v n).2 ∨ v k = (two v n).1 := by
  induction n with
  | zero => omega
  | succ n ih =>
    change v k ≤ max (two v n).2 (min (two v n).1 (v n)) ∨ v k = max (two v n).1 (v n)
    rcases Nat.lt_succ_iff_lt_or_eq.1 hk with h | rfl
    · rcases ih h with h2 | h1
      · exact Or.inl (h2.trans (le_max_left _ _))
      · rcases le_total (two v n).1 (v n) with h' | h'
        · rw [min_eq_left h', h1]
          exact Or.inl (le_max_right _ _)
        · rw [max_eq_left h']
          exact Or.inr h1
    · rcases le_total (two v k).1 (v k) with h' | h'
      · exact Or.inr (max_eq_right h').symm
      · rw [min_eq_right h']
        exact Or.inl (le_max_right _ _)

/-- A value met is one of the two kept, or is below the values at two different places. -/
theorem kept (n k : ℕ) (hk : k < n) :
    v k = (two v n).1 ∨ v k = (two v n).2 ∨ ∃ a b, a < n ∧ b < n ∧ a ≠ b ∧ v k < v a ∧ v k < v b := by
  rcases le_two_snd (v := v) n k hk with h | h
  · rcases h.eq_or_lt with e | l
    · exact Or.inr (Or.inl e)
    · rcases two_snd (v := v) n with e | ⟨a, b, ha, hb, hab, ea, eb⟩
      · exact absurd l (by rw [e]; exact not_lt_bot)
      · exact Or.inr (Or.inr ⟨a, b, ha, hb, hab, by rw [ea]; exact l.trans_le (two_le n), by rw [eb]; exact l⟩)
  · exact Or.inl h

/-- A second kept value that is not `⊥` is a value met. -/
theorem two_snd' (n : ℕ) : (two v n).2 = ⊥ ∨ ∃ a, a < n ∧ v a = (two v n).2 :=
  (two_snd (v := v) n).imp id fun ⟨_, b, _, hb, _, _, e⟩ => ⟨b, hb, e⟩

/-! ## The three largest distinct values of a list -/

section Three

variable {ι : Type} [Fintype ι]

/-- The largest value, `⊥` for none. -/
noncomputable def big (c : ι → EReal) : EReal := Finset.univ.fold max ⊥ c

theorem big_eq (c : ι → EReal) (M : EReal) (hle : ∀ i, c i ≤ M) (hat : ∃ i, c i = M) : big c = M := by
  obtain ⟨i, rfl⟩ := hat
  exact le_antisymm (Finset.fold_max_le _ |>.2 ⟨bot_le, fun j _ => hle j⟩)
    (Finset.le_fold_max _ |>.2 (Or.inr ⟨i, Finset.mem_univ i, le_rfl⟩))

/-- What is left of `c` below `M`. -/
noncomputable def below (c : ι → EReal) (M : EReal) (i : ι) : EReal := if c i < M then c i else ⊥

/-- A list whose entries are `a`, `b` or at most `d`, `a > b > d`, each of the three met: its three largest distinct
    values, found by taking the maximum and masking what is not below it, are `a`, `b` and `d`. -/
theorem three (c : ι → EReal) (a b d : EReal) (hab : b < a) (hbd : d < b)
    (hc : ∀ i, c i ≤ d ∨ c i = b ∨ c i = a) (ha : ∃ i, c i = a) (hb : ∃ i, c i = b) (hd : ∃ i, c i = d) :
    big c = a ∧ big (below c a) = b ∧ big (below (below c a) b) = d := by
  have below_le (c : ι → EReal) (M : EReal) (i : ι) : below c M i ≤ c i := by
    unfold below; split_ifs
    · exact le_rfl
    · exact bot_le
  have h1 : ∀ i, below c a i ≤ d ∨ below c a i = b := by
    intro i
    rcases hc i with h | h | h
    · exact Or.inl ((below_le c a i).trans h)
    · exact Or.inr (by unfold below; rw [if_pos (h ▸ hab), h])
    · exact Or.inl (by unfold below; rw [if_neg (by rw [h]; exact lt_irrefl _)]; exact bot_le)
  have h2 : ∀ i, below (below c a) b i ≤ d := by
    intro i
    rcases h1 i with h | h
    · exact (below_le _ _ i).trans h
    · unfold below at h ⊢; rw [h, if_neg (lt_irrefl _)]; exact bot_le
  refine ⟨big_eq c a (fun i => ?_) ha, big_eq _ b (fun i => ?_) ?_, big_eq _ d h2 ?_⟩
  · rcases hc i with h | h | h
    · exact h.trans (hbd.trans hab).le
    · exact h.trans_le hab.le
    · exact h.le
  · rcases h1 i with h | h
    · exact h.trans hbd.le
    · exact h.le
  · obtain ⟨i, hi⟩ := hb
    exact ⟨i, by unfold below; rw [hi, if_pos hab]⟩
  · obtain ⟨i, hi⟩ := hd
    exact ⟨i, by unfold below; rw [hi, if_pos (hbd.trans hab), if_pos hbd]⟩

end Three

end Cert.Proof.Top

end
-- ==== Proof.Consts.lean ====
/- The constants the two programs are printed with, as extended reals. -/
module

public import Idealize.ShloMosaic.Lib.Claim
public import Idealize.ShloMosaic.Lib.Pointwise

@[expose] public section

noncomputable section

open Idealize.ShloMosaic

namespace Cert.Proof.Consts

/-- The constant added to both sums. -/
def eps : ℝ := 14411519 / 2 ^ 57

theorem eps_pos : 0 < eps := by unfold eps; positivity

theorem bits_low : Ideal.ofBits .f32 0xFF800000#32 = ⊥ := by
  simp [Ideal.ofBits, Ideal.ieee]

theorem bits_high : Ideal.ofBits .f32 0x7F800000#32 = ⊤ := by
  simp [Ideal.ofBits, Ideal.ieee]

theorem bits_eps : Ideal.ofBits .f32 0x2EDBE6FF#32 = ((eps : ℝ) : EReal) := by
  simp [Ideal.ofBits, Ideal.ieee, eps, -EReal.coe_mul]; norm_num

theorem bits_mean : Ideal.ofBits .f32 0x39800000#32 = ((1 / 4096 : ℝ) : EReal) := by
  simp [Ideal.ofBits, Ideal.ieee, -EReal.coe_mul]; norm_num

theorem bits_count : Ideal.ofBits .f32 0x45800000#32 = ((4096 : ℝ) : EReal) := by
  simp [Ideal.ofBits, Ideal.ieee, -EReal.coe_mul]; norm_num

theorem bits_temperature : Ideal.ofBits .f32 0x3DCCCCCD#32 = ((13421773 / 134217728 : ℝ) : EReal) := by
  simp [Ideal.ofBits, Ideal.ieee, -EReal.coe_mul]; norm_num

theorem bits_mask : Ideal.ofBits .f32 0xCE6E6B28#32 = ((-1000000000 : ℝ) : EReal) := by
  simp [Ideal.ofBits, Ideal.ieee, -EReal.coe_mul]; norm_num

theorem bits_one : Ideal.ofBits .f32 0x3F800000#32 = ((1 : ℝ) : EReal) := by
  simp [Ideal.ofBits, Ideal.ieee, -EReal.coe_mul]; norm_num

end Cert.Proof.Consts

end
-- ==== Proof.Words.lean ====
/- Comparisons of index words and one-bit words. -/
module

public import Idealize.ShloMosaic.Lib.Pointwise
public import Idealize.ShloMosaic.Lib.WordCmp

@[expose] public section

noncomputable section

open Idealize.ShloMosaic

namespace Cert.Proof.Words

theorem word_eq (a b : BitVec 32) : IntOp.cmpi .eq a b = 1#1 ↔ a = b := by
  have e : IntOp.cmpi .eq a b = BitVec.ofBool (a == b) := rfl
  rw [e]
  by_cases h : a = b
  · subst h; simp
  · rw [beq_eq_false_iff_ne.2 h]
    exact ⟨fun h => absurd h (by decide), fun h' => absurd h' h⟩

theorem index_eq (n m : ℕ) (hn : n < 4096) (hm : m < 4096) : BitVec.ofNat 32 n = BitVec.ofNat 32 m ↔ n = m := by
  constructor
  · intro h
    have := congrArg BitVec.toNat h
    simp only [BitVec.toNat_ofNat] at this
    omega
  · rintro rfl; rfl

/-- The diagonal, as the programs write it. -/
theorem diagonal (r q : Fin 4096) :
    IntOp.cmpi .eq (IntOp.addi (BitVec.ofNat 32 r.val) 0#32) (BitVec.ofNat 32 q.val) = 1#1 ↔ r = q := by
  have e : IntOp.addi (BitVec.ofNat 32 r.val) 0#32 = BitVec.ofNat 32 r.val := BitVec.add_zero _
  rw [word_eq, e, index_eq _ _ r.isLt q.isLt]
  exact ⟨Fin.ext, congrArg Fin.val⟩

theorem and_one : ∀ a b : BitVec 1, IntOp.andi a b = 1#1 ↔ a = 1#1 ∧ b = 1#1 := by decide

theorem not_one : ∀ a : BitVec 1, ~~~a = 1#1 ↔ ¬a = 1#1 := by decide

theorem bool_one (p : Prop) [Decidable p] : BitVec.ofBool (decide p) = 1#1 ↔ p := by
  by_cases h : p <;> simp [h]

/-- The lane of an index, as the programs write it. -/
theorem lane_eq (n m : ℕ) (hn : n < 4096) (hm : m < 4096) :
    IntOp.andi (BitVec.ofNat 32 n) 255#32 = IntOp.andi (BitVec.ofNat 32 m) 255#32 ↔ n % 256 = m % 256 := by
  have e : ∀ n, n < 4096 → (IntOp.andi (BitVec.ofNat 32 n) 255#32).toNat = n % 256 := by
    intro n hn
    change (BitVec.ofNat 32 n &&& 255#32).toNat = _
    rw [BitVec.toNat_and, BitVec.toNat_ofNat, Nat.mod_eq_of_lt (by omega)]
    exact Nat.and_two_pow_sub_one_eq_mod n 8
  rw [← e n hn, ← e m hm]
  exact ⟨congrArg BitVec.toNat, BitVec.eq_of_toNat_eq⟩

end Cert.Proof.Words

end
-- ==== Proof.Read.lean ====
/- The kernel's vectors read at an index, over the extended reals. -/
module

public import proofs.«01_k».proof.Proof.Body
public import proofs.«01_k».proof.Proof.Top
public import proofs.«01_k».proof.Proof.Consts
public import proofs.«01_k».proof.Proof.Words
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.KernelIdeal.Body

open Cert.KernelIdeal Cert.KernelIdeal.Gen Cert.Proof

/-- The first row of the slice that step `k` of grid point `i` visits. -/
theorem slice_word : ∀ i k : Fin 16, (Scalar.indexCast (Scalar.muli (Scalar.remsi
    (Scalar.addi (BitVec.ofNat 32 i.val) (BitVec.ofNat 32 k.val)) 16#32) 256#32)).toNat = (i.val + k.val) % 16 * 256 := by
  decide +kernel

/-- The first row of grid point `i`'s row block. -/
theorem block_word : ∀ i : Fin 16, (Scalar.indexCast (Scalar.muli (BitVec.ofNat 32 i.val) 256#32)).toNat = i.val * 256 := by
  decide +kernel

theorem rowsAt_at (x1 : Vec Ideal S4096x128 .f32) (i : grid0.Coords) (k : Fin 16) (c : Fin 256) (d : Fin 128) :
    rowsAt x1 i k (ix2 c d) = x1 (ix2 ⟨((i 0).val + k.val) % 16 * 256 + c.val, by omega⟩ d) := by
  unfold rowsAt
  refine congrArg x1 (funext fun a => Fin.ext ?_)
  rw [Rect.idx_unit_val]
  match a with
  | 0 => exact congrArg (· + c.val) (slice_word (i 0) k)
  | 1 => exact Nat.zero_add _

theorem labsAt_at (x2 : Vec Ideal S1x4096 .i32) (i : grid0.Coords) (k : Fin 16) (c : Fin 256) :
    labsAt x2 i k (ix2 0 c) = x2 (ix2 0 ⟨((i 0).val + k.val) % 16 * 256 + c.val, by omega⟩) := by
  unfold labsAt
  refine congrArg x2 (funext fun a => Fin.ext ?_)
  rw [Rect.idx_unit_val]
  match a with
  | 0 => exact Nat.zero_add _
  | 1 => exact congrArg (· + c.val) (slice_word (i 0) k)

theorem labsOwn_at (x2 : Vec Ideal S1x4096 .i32) (i : grid0.Coords) (r : Fin 256) :
    labsOwn x2 i (ix2 0 r) = x2 (ix2 0 ⟨(i 0).val * 256 + r.val, by have h : (i 0).val < 16 := (i 0).isLt; omega⟩) := by
  unfold labsOwn
  refine congrArg x2 (funext fun a => Fin.ext ?_)
  rw [Rect.idx_unit_val]
  match a with
  | 0 => exact Nat.zero_add _
  | 1 => exact congrArg (· + r.val) (block_word (i 0))

/-- The scale of the similarities: the base-two logarithm of e over the temperature. -/
def scale : ℝ := 134217728 / 13421773 * (Real.log 2)⁻¹

theorem named_scale : (Named.named κ "log2e_over_t" 0x4166D4CA#32 : Ideal .f32) = ((scale : ℝ) : EReal) :=
  IdealRules.named_const.ideal_named_scalar _ _ _ _ rfl

theorem sims_at (x0 fk : Vec Ideal S256x128 .f32) (r c : Fin 256) :
    (sims x0 fk (ix2 r c) : EReal)
      = ∑ d : Fin 128, (x0 (ix2 r d) : EReal) * ((scale : ℝ) : EReal) * (fk (ix2 c d) : EReal) := by
  pointwise [sims]
  rw [named_scale]

theorem same_at (lr lk : Vec Ideal S1x256 .i32) (r c : Fin 256) :
    same (F := Ideal) lr lk (ix2 r c) = 1#1 ↔ lr (ix2 0 r) = lk (ix2 0 c) := by
  pointwise [same]
  exact Words.word_eq _ _

theorem offDiag_at (r c : Fin 256) : offDiag (ix2 r c) = if c = r then 0#1 else 1#1 := by
  pointwise [offDiag]
  have h : (BitVec.ofNat 32 c.val = BitVec.ofNat 32 r.val) ↔ c = r := by
    rw [Words.index_eq _ _ (by omega) (by omega)]
    exact ⟨Fin.ext, congrArg Fin.val⟩
  rw [← Words.word_eq] at h
  generalize IntOp.cmpi .eq (BitVec.ofNat 32 c.val) (BitVec.ofNat 32 r.val) = w at h ⊢
  by_cases e : c = r
  · rw [if_pos e, h.2 e]; rfl
  · rw [if_neg e]
    have hw : w ≠ 1#1 := fun hw => e (h.1 hw)
    revert hw
    exact (by decide : ∀ w : BitVec 1, w ≠ 1#1 → IntOp.xori w 1#1 = 1#1) w

/-- What a lane may keep of a step: its similarity, or `⊥` where the pair is a positive. -/
def neg (s : ℕ → FVec Ideal S256x256 .f32) (p : ℕ → IVec S256x256 1) (r c : Fin 256) (k : ℕ) : EReal :=
  if p k (ix2 r c) = 1#1 then ⊥ else s k (ix2 r c)

/-- What a step adds to a lane's sum. -/
def pos (s : ℕ → FVec Ideal S256x256 .f32) (p : ℕ → IVec S256x256 1) (r c : Fin 256) (k : ℕ) : EReal :=
  if p k (ix2 r c) = 1#1 then Ideal.exp2 (s k (ix2 r c)) else 0

variable (s : ℕ → FVec Ideal S256x256 .f32) (p : ℕ → IVec S256x256 1)

theorem accN_at (n : ℕ) (r c : Fin 256) :
    (accN s p n (ix2 r c) : EReal) = ∑ k ∈ Finset.range n, pos s p r c k := by
  induction n with
  | zero =>
    rw [Finset.sum_range_zero]
    pointwise [accN]
  | succ n ih =>
    rw [Finset.sum_range_succ, ← ih]
    pointwise [accN, lows]
    refine congrArg (accN s p n (ix2 r c) + ·) ?_
    unfold Scalar.select pos
    rw [Consts.bits_low]
    by_cases h : p n (ix2 r c) = 1#1
    · simp only [h, if_true]; rfl
    · rw [if_neg h, if_neg (show ¬p n (ix2 r c) = 1 from h)]; rfl

theorem select_neg (n : ℕ) (r c : Fin 256) :
    Scalar.select (p n (ix2 r c)) (Ideal.ofBits .f32 0xFF800000#32) (s n (ix2 r c)) = neg s p r c n := by
  rw [Consts.bits_low]; rfl

theorem topN_at (n : ℕ) (r c : Fin 256) : (topN s p n (ix2 r c) : EReal) = (Top.two (neg s p r c) n).1 := by
  induction n with
  | zero => pointwise [topN, lows]; exact Consts.bits_low
  | succ n ih =>
    change _ = max (Top.two (neg s p r c) n).1 (neg s p r c n)
    rw [← ih, ← select_neg]
    pointwise [topN, lows]

theorem nextN_at (n : ℕ) (r c : Fin 256) : (nextN s p n (ix2 r c) : EReal) = (Top.two (neg s p r c) n).2 := by
  induction n with
  | zero => pointwise [nextN, lows]; exact Consts.bits_low
  | succ n ih =>
    change _ = max (Top.two (neg s p r c) n).2 (min (Top.two (neg s p r c) n).1 (neg s p r c n))
    rw [← ih, ← topN_at, ← select_neg]
    pointwise [nextN, lows]

theorem cand_at (r1 r2 : FVec Ideal S256x256 .f32) (r : Fin 256) (j : Fin 512) :
    cand r1 r2 (ix2 r j) = if h : j.val < 256 then r1 (ix2 r ⟨j.val, h⟩) else r2 (ix2 r ⟨j.val - 256, by omega⟩) := by
  pointwise [cand]

theorem rowMax_at (x : FVec Ideal S256x512 .f32) (r : Fin 256) :
    (rowMax x (ix1 r) : EReal) = Top.big (fun j : Fin 512 => (x (ix2 r j) : EReal)) := by
  pointwise [rowMax]
  rw [Consts.bits_low]; rfl

theorem belowRow_at (x : FVec Ideal S256x512 .f32) (M : FVec Ideal S256 .f32) (r : Fin 256) (j : Fin 512) :
    (belowRow x M (ix2 r j) : EReal) = Top.below (fun j : Fin 512 => (x (ix2 r j) : EReal)) (M (ix1 r)) j := by
  pointwise [belowRow]
  rw [Consts.bits_low]; rfl

theorem posSum_at (acc : FVec Ideal S256x256 .f32) (r : Fin 256) : posSum acc (ix1 r) = ∑ c : Fin 256, acc (ix2 r c) := by
  pointwise [posSum]

theorem losses_at (ps ns : FVec Ideal S256 .f32) (r : Fin 256) :
    (losses ps ns (ix1 r) : EReal)
      = Ideal.log ((ps (ix1 r) + (Consts.eps : EReal)) + (ns (ix1 r) + (Consts.eps : EReal)))
        - Ideal.log (ps (ix1 r) + (Consts.eps : EReal)) := by
  pointwise [losses]
  rw [Consts.bits_eps]

theorem powers_at (A B D : FVec Ideal S256 .f32) (r : Fin 256) :
    ((addf (addf (exp2 A) (exp2 B)) (exp2 D) : FVec Ideal S256 .f32) (ix1 r) : EReal)
      = Ideal.exp2 (A (ix1 r)) + Ideal.exp2 (B (ix1 r)) + Ideal.exp2 (D (ix1 r)) := by
  pointwise []
  try rfl

theorem negSum_at (x : FVec Ideal S256x512 .f32) (r : Fin 256) (a b d : EReal)
    (h : Top.big (fun j : Fin 512 => (x (ix2 r j) : EReal)) = a
      ∧ Top.big (Top.below (fun j : Fin 512 => (x (ix2 r j) : EReal)) a) = b
      ∧ Top.big (Top.below (Top.below (fun j : Fin 512 => (x (ix2 r j) : EReal)) a) b) = d) :
    (negSum x (ix1 r) : EReal) = Ideal.exp2 a + Ideal.exp2 b + Ideal.exp2 d := by
  obtain ⟨ha, hb, hd⟩ := h
  have e1 : (rowMax x (ix1 r) : EReal) = a := (rowMax_at x r).trans ha
  have f1 : (fun j : Fin 512 => (belowRow x (rowMax x) (ix2 r j) : EReal)) = Top.below (fun j : Fin 512 => (x (ix2 r j) : EReal)) a :=
    funext fun j => (belowRow_at x _ r j).trans (by rw [e1])
  have e2 : (rowMax (belowRow x (rowMax x)) (ix1 r) : EReal) = b := (rowMax_at _ r).trans (by rw [f1]; exact hb)
  have f2 : (fun j : Fin 512 => (belowRow (belowRow x (rowMax x)) (rowMax (belowRow x (rowMax x))) (ix2 r j) : EReal))
      = Top.below (Top.below (fun j : Fin 512 => (x (ix2 r j) : EReal)) a) b :=
    funext fun j => (belowRow_at _ _ r j).trans (by rw [e2, f1])
  have e3 : (rowMax (belowRow (belowRow x (rowMax x)) (rowMax (belowRow x (rowMax x)))) (ix1 r) : EReal) = d :=
    (rowMax_at _ r).trans (by rw [f2]; exact hd)
  rw [← e1, ← e2, ← e3]
  unfold negSum
  exact powers_at _ _ _ r

theorem share_at (l : FVec Ideal S256 .f32) :
    (share l (ix2 0 0) : EReal) = (∑ r : Fin 256, (l (ix1 r) : EReal)) * ((1 / 4096 : ℝ) : EReal) := by
  pointwise [share]
  rw [Consts.bits_mean]

end Cert.KernelIdeal.Body

end
-- ==== Proof.Lanes.lean ====
/- The columns of a row dealt to 256 lanes, sixteen a lane, in any rotation of the slices: the sum over the lanes is
   the row's, and the three largest values are among what the lanes kept, unless one lane holds all three. -/
module

public import proofs.«01_k».proof.Proof.Top
public import Idealize.ShloMosaic.Lib.Pipeline.ValueKit
public import Idealize.ShloMosaic.Lib.Pointwise

@[expose] public section

noncomputable section

open Idealize.ShloMosaic

namespace Cert.Proof.Lanes

/-- The column that lane `c` meets at step `k` when slice `g` is visited first. -/
def col (g : ℕ) (c : Fin 256) (k : ℕ) : Fin 4096 := ⟨(g + k) % 16 * 256 + c.val, by omega⟩

theorem col_inj (g : ℕ) (c : Fin 256) (a b : ℕ) (ha : a < 16) (hb : b < 16) (h : col g c a = col g c b) : a = b := by
  have := congrArg Fin.val h
  simp only [col] at this
  omega

theorem col_onto (g : ℕ) (q : Fin 4096) : ∃ k, k < 16 ∧ col g ⟨q.val % 256, by omega⟩ k = q := by
  refine ⟨(q.val / 256 + 16 - g % 16) % 16, by omega, Fin.ext ?_⟩
  simp only [col]
  omega

theorem col_lane (g : ℕ) (c : Fin 256) (k : ℕ) : (col g c k).val % 256 = c.val := by
  simp only [col]
  omega

/-- The sum over the lanes of what each meets is the sum over the columns. -/
theorem sum_lanes {M : Type} [AddCommMonoid M] (g : ℕ) (f : Fin 4096 → M) :
    ∑ c : Fin 256, ∑ k ∈ Finset.range 16, f (col g c k) = ∑ q : Fin 4096, f q := by
  have h1 : ∀ c : Fin 256, ∑ k ∈ Finset.range 16, f (col g c k) = ∑ k : Fin 16, f (col g c k.val) :=
    fun c => Finset.sum_range fun k => f (col g c k)
  rw [Finset.sum_congr rfl fun c _ => h1 c, Finset.sum_comm]
  have h2 : ∀ F : Fin 16 → M, ∑ k : Fin 16, F (Fin.ofNat 16 g + k) = ∑ j, F j :=
    fun F => Equiv.sum_comp (Equiv.addLeft (Fin.ofNat 16 g)) F
  refine Eq.trans ?_ (Fin.sum_univ_tiles 16 256 rfl f).symm
  refine Eq.trans ?_ (h2 fun j => ∑ t : Fin 256, f ⟨j.val * 256 + t.val, by omega⟩)
  refine Finset.sum_congr rfl fun k _ => Finset.sum_congr rfl fun c _ => congrArg f (Fin.ext ?_)
  simp only [col, Fin.val_add, Fin.ofNat]
  omega

/-- Of a row's values, three at different columns with the others at most the least of the three, not all in one lane:
    they are the three largest distinct values among what the lanes kept. -/
theorem three (g : ℕ) (val : Fin 4096 → EReal) (a b d : Fin 4096) (hab : val b < val a) (hbd : val d < val b)
    (hle : ∀ q, q ≠ a → q ≠ b → val q ≤ val d) (hlane : ¬(a.val % 256 = b.val % 256 ∧ b.val % 256 = d.val % 256))
    (cand : Fin 512 → EReal)
    (hcand : ∀ j : Fin 512, cand j = if h : j.val < 256 then (Top.two (fun k => val (col g ⟨j.val, h⟩ k)) 16).1
      else (Top.two (fun k => val (col g ⟨j.val - 256, by omega⟩ k)) 16).2) :
    Top.big cand = val a ∧ Top.big (Top.below cand (val a)) = val b
      ∧ Top.big (Top.below (Top.below cand (val a)) (val b)) = val d := by
  have hda : val d < val a := hbd.trans hab
  have cases3 : ∀ q, val q ≤ val d ∨ val q = val b ∨ val q = val a := by
    intro q
    by_cases ea : q = a
    · exact Or.inr (Or.inr (by rw [ea]))
    by_cases eb : q = b
    · exact Or.inr (Or.inl (by rw [eb]))
    exact Or.inl (hle q ea eb)
  have above : ∀ q, val d < val q → q = a ∨ q = b := by
    intro q hq
    by_contra hn
    exact absurd (hle q (fun e => hn (Or.inl e)) fun e => hn (Or.inr e)) (not_le.2 hq)
  have fstAt : ∀ c : Fin 256, cand ⟨c.val, by omega⟩ = (Top.two (fun k => val (col g c k)) 16).1 := by
    intro c
    rw [hcand, dif_pos c.isLt]
  have sndAt : ∀ c : Fin 256, cand ⟨c.val + 256, by omega⟩ = (Top.two (fun k => val (col g c k)) 16).2 := by
    intro c
    rw [hcand, dif_neg (by simp)]
    exact congrArg (fun e => (Top.two (fun k => val (col g e k)) 16).2) (Fin.ext (Nat.add_sub_cancel c.val 256))
  -- a column that no two others of its lane exceed is kept
  have keep : ∀ q, (∀ x y : Fin 4096, x ≠ y → x.val % 256 = q.val % 256 → y.val % 256 = q.val % 256 →
      val q < val x → val q < val y → False) → ∃ j, cand j = val q := by
    intro q hq
    obtain ⟨k, hk, e⟩ := col_onto g q
    rcases Top.kept (v := fun k => val (col g ⟨q.val % 256, by omega⟩ k)) 16 k hk with h | h | ⟨x, y, hx, hy, hxy, lx, ly⟩
    · exact ⟨_, (fstAt _).trans (h.symm.trans (congrArg val e))⟩
    · exact ⟨_, (sndAt _).trans (h.symm.trans (congrArg val e))⟩
    · refine (hq (col g ⟨q.val % 256, by omega⟩ x) (col g ⟨q.val % 256, by omega⟩ y) (fun h => hxy (col_inj g _ x y hx hy h))
        (col_lane g _ x) (col_lane g _ y) ?_ ?_).elim
      · exact lt_of_eq_of_lt (congrArg val e.symm) lx
      · exact lt_of_eq_of_lt (congrArg val e.symm) ly
  refine Top.three cand (val a) (val b) (val d) hab hbd (fun j => ?_) (keep a ?_) (keep b ?_) (keep d ?_)
  · rw [hcand j]
    split_ifs with h
    · rcases Top.two_fst (v := fun k => val (col g ⟨j.val, h⟩ k)) 16 with e | ⟨k, _, e⟩
      · rw [e]; exact Or.inl bot_le
      · rw [← e]; exact cases3 _
    · rcases Top.two_snd' (v := fun k => val (col g ⟨j.val - 256, by omega⟩ k)) 16 with e | ⟨k, _, e⟩
      · rw [e]; exact Or.inl bot_le
      · rw [← e]; exact cases3 _
  · intro x y hxy _ _ lx ly
    rcases above x (hda.trans lx) with rfl | rfl
    · exact lt_irrefl _ lx
    · exact lt_asymm hab lx
  · intro x y hxy _ _ lx ly
    rcases above x (hbd.trans lx) with rfl | rfl
    · rcases above y (hbd.trans ly) with rfl | rfl
      · exact hxy rfl
      · exact lt_irrefl _ ly
    · exact lt_irrefl _ lx
  · intro x y hxy hx hy lx ly
    rcases above x lx with rfl | rfl <;> rcases above y ly with rfl | rfl
    · exact hxy rfl
    · exact hlane ⟨hx.trans hy.symm, hy⟩
    · exact hlane ⟨hy.trans hx.symm, hx⟩
    · exact hxy rfl

end Cert.Proof.Lanes

end
-- ==== Proof.TopK.lean ====
/- The three greatest of a row, over the extended reals: the positions the sort puts first. -/
module

public import Idealize.ShloMosaic.Lib.SortFacts
public import Idealize.ShloMosaic.Lib.Pointwise
public import Idealize.ShloMosaic.Lib.Pipeline.ValueKit

@[expose] public section

set_option maxRecDepth 16384

noncomputable section

open Idealize.ShloMosaic

namespace Cert.Proof.TopK

theorem gt_iff (a b : EReal) : FloatOps.cmpfTotal (F := Ideal) (φ := .f32) .gt a b = 1#1 ↔ b < a := by
  change BitVec.ofBool (decide (b < a)) = 1#1 ↔ _
  by_cases h : b < a
  · simp [h]
  · simp [h]

variable {N : ℕ}

/-- The columns of a row, greatest first. -/
def order (x : Fin N → EReal) : Fin N → Fin N :=
  sortedFrom fun k k' => FloatOps.cmpfTotal (F := Ideal) (φ := .f32) .gt (x k) (x k') == 1#1

theorem order_anti (x : Fin N → EReal) (i j : Fin N) (h : i < j) : x (order x j) ≤ x (order x i) := by
  have e : ∀ a b, (FloatOps.cmpfTotal (F := Ideal) (φ := .f32) .gt (x a) (x b) == 1#1) = true ↔ x b < x a := fun a b => by
    rw [beq_iff_eq, gt_iff]
  have f : ∀ a b, (FloatOps.cmpfTotal (F := Ideal) (φ := .f32) .gt (x a) (x b) == 1#1) = false ↔ x a ≤ x b := fun a b => by
    rw [← Bool.not_eq_true, e, not_lt]
  let B : Fin N → Fin N → Bool := fun a b => FloatOps.cmpfTotal (F := Ideal) (φ := .f32) .gt (x a) (x b) == 1#1
  exact (f _ _).1 (sortedFrom_noInversion B B (fun a b h => (f b a).2 ((e a b).1 h).le) (fun a b h => h)
    (fun a b c hab hbc => (f a c).2 (((f a b).1 hab).trans ((f b c).1 hbc))) i j h)

/-- The column at place `l` of the first three. -/
def first (hN : 3 ≤ N) (x : Fin N → EReal) (l : Fin 3) : Fin N := order x ⟨l.val, by omega⟩

theorem first_inj (hN : 3 ≤ N) (x : Fin N → EReal) (l l' : Fin 3) (h : first hN x l = first hN x l') : l = l' := by
  have e := sortedFrom_injective _ h
  exact Fin.ext (Fin.mk.inj e)

/-- Every other column's value is at most the third's. -/
theorem rest_le (hN : 3 ≤ N) (x : Fin N → EReal) (q : Fin N) (h0 : q ≠ first hN x 0) (h1 : q ≠ first hN x 1) :
    x q ≤ x (first hN x 2) := by
  obtain ⟨j, e⟩ := sortedFrom_surjective (fun k k' => FloatOps.cmpfTotal (F := Ideal) (φ := .f32) .gt (x k) (x k') == 1#1) q
  have e' : q = order x j := e.symm
  subst e'
  rcases lt_trichotomy j.val 2 with h | h | h
  · exfalso
    have : j.val = 0 ∨ j.val = 1 := by omega
    rcases this with h | h
    · exact h0 (congrArg (order x) (Fin.ext h))
    · exact h1 (congrArg (order x) (Fin.ext h))
  · exact le_of_eq (congrArg (fun j => x (order x j)) (Fin.ext h))
  · exact order_anti x ⟨2, by omega⟩ j h

theorem along_row (r k j : Fin N) :
    (ix2 r j : (⟨2, ![N, N]⟩ : Shape).Idx).along (⟨1, Nat.one_lt_two⟩ : Fin 2) k = ix2 r k := by
  funext a
  match a with
  | 0 => rfl
  | 1 => rfl

theorem slice_at {α : Type} (hN : 3 ≤ N) (y : (⟨2, ![N, N]⟩ : Shape).Idx → α)
    (h : (⟨2, ![N, N]⟩ : Shape).Slices (fun _ => 0) ⟨2, ![N, 3]⟩) (r : Fin N) (l : Fin 3) :
    extractStridedSlice ⟨2, ![N, 3]⟩ (fun _ => 0) y h (ix2 r l) = y (ix2 r ⟨l.val, by omega⟩) := by
  refine congrArg y (funext fun a => Fin.ext ?_)
  match a with
  | 0 => exact Nat.zero_add _
  | 1 => exact Nat.zero_add _

theorem sort_at {α β : Type} (cmp : α × β → α × β → BitVec 1) (x : (⟨2, ![N, N]⟩ : Shape).Idx → α)
    (y : (⟨2, ![N, N]⟩ : Shape).Idx → β) (r j : Fin N) :
    (Host.sort2 ⟨2, ![N, N]⟩ 1 cmp x y).1 (ix2 r j)
        = x (ix2 r (sortedFrom (fun k k' => cmp (x (ix2 r k), y (ix2 r k)) (x (ix2 r k'), y (ix2 r k')) == 1#1) j))
    ∧ (Host.sort2 ⟨2, ![N, N]⟩ 1 cmp x y).2 (ix2 r j)
        = y (ix2 r (sortedFrom (fun k k' => cmp (x (ix2 r k), y (ix2 r k)) (x (ix2 r k'), y (ix2 r k')) == 1#1) j)) := by
  have e : (fun k k' : Fin N => cmp (x ((ix2 r j : (⟨2, ![N, N]⟩ : Shape).Idx).along (⟨1, Nat.one_lt_two⟩ : Fin 2) k),
        y ((ix2 r j : (⟨2, ![N, N]⟩ : Shape).Idx).along (⟨1, Nat.one_lt_two⟩ : Fin 2) k))
      (x ((ix2 r j : (⟨2, ![N, N]⟩ : Shape).Idx).along (⟨1, Nat.one_lt_two⟩ : Fin 2) k'),
        y ((ix2 r j : (⟨2, ![N, N]⟩ : Shape).Idx).along (⟨1, Nat.one_lt_two⟩ : Fin 2) k')) == 1#1)
      = fun k k' => cmp (x (ix2 r k), y (ix2 r k)) (x (ix2 r k'), y (ix2 r k')) == 1#1 := by
    funext k k'
    rw [along_row, along_row]
  rw [← e]
  unfold Host.sort2
  rw [dif_pos (show 1 < 2 from Nat.one_lt_two)]
  exact ⟨congrArg x (along_row r _ j), congrArg y (along_row r _ j)⟩

theorem vals_at (hN : 3 ≤ N) (x : FVec Ideal ⟨2, ![N, N]⟩ .f32) (h : (⟨2, ![N, N]⟩ : Shape).Slices (fun _ => 0) ⟨2, ![N, 3]⟩)
    (r : Fin N) (l : Fin 3) :
    (Host.topK ⟨2, ![N, 3]⟩ 1 (FloatOps.cmpfTotal .gt) x h).1 (ix2 r l)
      = x (ix2 r (first hN (fun q => (x (ix2 r q) : EReal)) l)) := by
  dsimp only [Host.topK]
  rw [slice_at hN, (sort_at _ x _ r _).1]
  rfl

theorem cols_at (hN : 3 ≤ N) (x : FVec Ideal ⟨2, ![N, N]⟩ .f32) (h : (⟨2, ![N, N]⟩ : Shape).Slices (fun _ => 0) ⟨2, ![N, 3]⟩)
    (r : Fin N) (l : Fin 3) :
    (Host.topK ⟨2, ![N, 3]⟩ 1 (FloatOps.cmpfTotal .gt) x h).2 (ix2 r l)
      = BitVec.ofNat 32 (first hN (fun q => (x (ix2 r q) : EReal)) l).val := by
  dsimp only [Host.topK]
  rw [slice_at hN, (sort_at _ x _ r _).2, dif_pos (show 1 < 2 from Nat.one_lt_two)]
  rfl

end Cert.Proof.TopK

end
-- ==== Proof.Loss.lean ====
/- The loss of a row over the reals: the similarities, the positives, the sum over them, and three negatives'. -/
module

public import proofs.«01_k».proof.Proof.Consts
public import proofs.«01_k».proof.Proof.TopK
public import Idealize.ShloMosaic.Lib.Pointwise

@[expose] public section

noncomputable section

open Idealize.ShloMosaic

namespace Cert.Proof.Loss

/-- The similarity of two rows of the features: their product over the temperature. -/
def sim (A : Fin 4096 → Fin 128 → ℝ) (R q : Fin 4096) : ℝ := (∑ d, A R d * A q d) * (134217728 / 13421773)

/-- `q` is a positive of `R`: another row of the same label. -/
def Pos (L : Fin 4096 → BitVec 32) (R q : Fin 4096) : Prop := L R = L q ∧ q ≠ R

open Classical in
/-- What column `q` adds to the sum over the positives of `R`. -/
def share (A : Fin 4096 → Fin 128 → ℝ) (L : Fin 4096 → BitVec 32) (R q : Fin 4096) : ℝ :=
  if Pos L R q then Real.exp (sim A R q) else 0

/-- The sum over the positives of `R`, and the shift. -/
def posTotal (A : Fin 4096 → Fin 128 → ℝ) (L : Fin 4096 → BitVec 32) (R : Fin 4096) : ℝ :=
  (∑ q, share A L R q) + Consts.eps

/-- The sum over three negatives of `R`, and the shift. -/
def negTotal (A : Fin 4096 → Fin 128 → ℝ) (R : Fin 4096) (π : Fin 3 → Fin 4096) : ℝ :=
  (Real.exp (sim A R (π 0)) + Real.exp (sim A R (π 1)) + Real.exp (sim A R (π 2))) + Consts.eps

theorem share_nonneg (A : Fin 4096 → Fin 128 → ℝ) (L : Fin 4096 → BitVec 32) (R q : Fin 4096) : 0 ≤ share A L R q := by
  unfold share
  split_ifs
  · exact (Real.exp_pos _).le
  · exact le_refl _

theorem posTotal_pos (A : Fin 4096 → Fin 128 → ℝ) (L : Fin 4096 → BitVec 32) (R : Fin 4096) : 0 < posTotal A L R :=
  add_pos_of_nonneg_of_pos (Finset.sum_nonneg fun q _ => share_nonneg A L R q) Consts.eps_pos

theorem negTotal_pos (A : Fin 4096 → Fin 128 → ℝ) (R : Fin 4096) (π : Fin 3 → Fin 4096) : 0 < negTotal A R π :=
  add_pos (add_pos (add_pos (Real.exp_pos _) (Real.exp_pos _)) (Real.exp_pos _)) Consts.eps_pos

/-- The loss of a row. -/
def loss (A : Fin 4096 → Fin 128 → ℝ) (L : Fin 4096 → BitVec 32) (R : Fin 4096) (π : Fin 3 → Fin 4096) : ℝ :=
  Real.log (posTotal A L R + negTotal A R π) - Real.log (posTotal A L R)

/-- The same loss, of the quotient. -/
theorem loss_quotient (A : Fin 4096 → Fin 128 → ℝ) (L : Fin 4096 → BitVec 32) (R : Fin 4096) (π : Fin 3 → Fin 4096) :
    -Real.log (posTotal A L R / (posTotal A L R + negTotal A R π)) = loss A L R π := by
  have hp := posTotal_pos A L R
  have hn := negTotal_pos A R π
  rw [Real.log_div hp.ne' (add_pos hp hn).ne', loss, neg_sub]

open Classical in
/-- A row as the choice of negatives sees it: the positives far below. -/
def shown (A : Fin 4096 → Fin 128 → ℝ) (L : Fin 4096 → BitVec 32) (R q : Fin 4096) : EReal :=
  if Pos L R q then ((-1000000000 : ℝ) : EReal) else ((sim A R q : ℝ) : EReal)

/-- The three hardest negatives of a row. -/
def hardest (A : Fin 4096 → Fin 128 → ℝ) (L : Fin 4096 → BitVec 32) (R : Fin 4096) : Fin 3 → Fin 4096 :=
  TopK.first (by decide) (shown A L R)

/-- The logarithm of a positive real. -/
theorem log_pos (x : ℝ) (h : 0 < x) : Ideal.log ((x : ℝ) : EReal) = ((Real.log x : ℝ) : EReal) := by
  rw [Ideal.log_coe, if_neg (not_le.2 h)]

/-- Sums of reals, as extended reals. -/
theorem sum_coe {ι : Type} (t : Finset ι) (f : ι → ℝ) : ∑ i ∈ t, ((f i : ℝ) : EReal) = ((∑ i ∈ t, f i : ℝ) : EReal) := by
  classical
  induction t using Finset.induction_on with
  | empty => rfl
  | insert a t ha ih => rw [Finset.sum_insert ha, Finset.sum_insert ha, ih, EReal.coe_add]

/-- The similarity as a quotient of the product of two rows by the printed temperature. -/
theorem sim_quotient (A : Fin 4096 → Fin 128 → ℝ) (r q : Fin 4096) (u v : Fin 128 → EReal)
    (hu : ∀ d, u d = ((A r d : ℝ) : EReal)) (hv : ∀ d, v d = ((A q d : ℝ) : EReal)) :
    Ideal.div (∑ d, u d * v d) (Ideal.ofBits .f32 0x3DCCCCCD#32) = ((sim A r q : ℝ) : EReal) := by
  rw [Consts.bits_temperature, Ideal.div_coe (by norm_num),
    Finset.sum_congr rfl fun d _ => (show u d * v d = ((A r d * A q d : ℝ) : EReal) by rw [hu, hv, EReal.coe_mul]),
    sum_coe, ← EReal.coe_mul]
  unfold sim
  norm_num

end Cert.Proof.Loss

end
-- ==== Proof.Row.lean ====
/- A row of a grid point's block: what the kernel computes there is the row's loss, of the three hardest negatives. -/
module

public import proofs.«01_k».proof.Proof.Read
public import proofs.«01_k».proof.Proof.Lanes
public import proofs.«01_k».proof.Proof.Loss

@[expose] public section

set_option maxRecDepth 16384

noncomputable section

open Idealize.ShloMosaic Idealize.ShloMosaic.TcCoe Idealize.SL.Sem

namespace Cert.KernelIdeal.Body

open Cert.KernelIdeal Cert.KernelIdeal.Gen Cert.Proof

/-- Row `r` of grid point `g`'s block, among all rows. -/
def rowOf (g : Fin 16) (r : Fin 256) : Fin 4096 := ⟨g.val * 256 + r.val, by omega⟩

open Classical in
/-- The value of a column for the choice of negatives: `⊥` at a positive, else the similarity over log 2. -/
def val (A : Fin 4096 → Fin 128 → ℝ) (L : Fin 4096 → BitVec 32) (R q : Fin 4096) : EReal :=
  if Loss.Pos L R q then ⊥ else ((Loss.sim A R q * (Real.log 2)⁻¹ : ℝ) : EReal)

theorem exp2_sim (x : ℝ) : Ideal.exp2 ((x * (Real.log 2)⁻¹ : ℝ) : EReal) = ((Real.exp x : ℝ) : EReal) := by
  rw [Ideal.exp2_coe]
  refine congrArg _ ?_
  have h2 : Real.log 2 ≠ 0 := (Real.log_pos one_lt_two).ne'
  rw [Real.rpow_eq_pow, Real.rpow_def_of_pos two_pos, mul_comm (Real.log 2), mul_assoc, inv_mul_cancel₀ h2, mul_one]

variable (A : Fin 4096 → Fin 128 → ℝ) (L : Fin 4096 → BitVec 32)
  (x0 : Vec Ideal S256x128 .f32) (x1 : Vec Ideal S4096x128 .f32) (x2 : Vec Ideal S1x4096 .i32) (i : grid0.Coords)

theorem simsAt_at (h0 : ∀ (r : Fin 256) (d : Fin 128), (x0 (ix2 r d) : EReal) = ((A (rowOf (i 0) r) d : ℝ) : EReal))
    (h1 : ∀ (q : Fin 4096) (d : Fin 128), (x1 (ix2 q d) : EReal) = ((A q d : ℝ) : EReal)) (r c : Fin 256) (k : ℕ) (hk : k < 16) :
    (simsAt x0 x1 i k (ix2 r c) : EReal)
      = ((Loss.sim A (rowOf (i 0) r) (Lanes.col (i 0).val c k) * (Real.log 2)⁻¹ : ℝ) : EReal) := by
  unfold simsAt
  rw [sims_at]
  have e : ∀ d : Fin 128, (x0 (ix2 r d) : EReal) * ((scale : ℝ) : EReal) * (rowsAt x1 i (Fin.ofNat 16 k) (ix2 c d) : EReal)
      = ((A (rowOf (i 0) r) d * scale * A (Lanes.col (i 0).val c k) d : ℝ) : EReal) := by
    intro d
    rw [h0, rowsAt_at, h1, EReal.coe_mul, EReal.coe_mul]
    refine congrArg (fun q => ((A (rowOf (i 0) r) d : ℝ) : EReal) * ((scale : ℝ) : EReal) * ((A q d : ℝ) : EReal)) (Fin.ext ?_)
    simp only [Lanes.col, Fin.ofNat, Nat.mod_eq_of_lt hk]
  rw [Finset.sum_congr rfl fun d _ => e d, Loss.sum_coe]
  refine congrArg _ ?_
  unfold Loss.sim scale
  rw [mul_assoc, Finset.sum_mul]
  exact Finset.sum_congr rfl fun d _ => by ring

theorem posAt_at (h2 : ∀ q : Fin 4096, x2 (ix2 0 q) = L q) (r c : Fin 256) (k : ℕ) (hk : k < 16) :
    posAt (F := Ideal) x2 i k (ix2 r c) = 1#1 ↔ Loss.Pos L (rowOf (i 0) r) (Lanes.col (i 0).val c k) := by
  have hi : (i 0).val < 16 := (i 0).isLt
  have own : labsOwn x2 i (ix2 0 r) = L (rowOf (i 0) r) := (labsOwn_at x2 i r).trans (h2 _)
  have at' : labsAt x2 i (Fin.ofNat 16 k) (ix2 0 c) = L (Lanes.col (i 0).val c k) := by
    rw [labsAt_at, h2]
    refine congrArg L (Fin.ext ?_)
    simp only [Lanes.col, Fin.ofNat, Nat.mod_eq_of_lt hk]
  have eqv : same (F := Ideal) (labsOwn x2 i) (labsAt x2 i (Fin.ofNat 16 k)) (ix2 r c) = 1#1
      ↔ L (rowOf (i 0) r) = L (Lanes.col (i 0).val c k) := by rw [same_at, own, at']
  unfold Loss.Pos
  rw [← eqv]
  cases k with
  | zero =>
    have e : posAt (F := Ideal) x2 i 0 (ix2 r c)
        = IntOp.andi (same (F := Ideal) (labsOwn x2 i) (labsAt x2 i (Fin.ofNat 16 0)) (ix2 r c)) (offDiag (ix2 r c)) := rfl
    have hd : Lanes.col (i 0).val c 0 ≠ rowOf (i 0) r ↔ ¬c = r := by
      refine not_congr ⟨fun h => Fin.ext ?_, fun h => Fin.ext ?_⟩
      · have := congrArg Fin.val h
        simp only [Lanes.col, rowOf] at this
        omega
      · subst h
        simp only [Lanes.col, rowOf]
        omega
    rw [e, offDiag_at, hd]
    generalize same (F := Ideal) (labsOwn x2 i) (labsAt x2 i (Fin.ofNat 16 0)) (ix2 r c) = w
    by_cases hc : c = r
    · rw [if_pos hc]
      exact ⟨fun h => absurd h ((by decide : ∀ w : BitVec 1, ¬IntOp.andi w 0#1 = 1#1) w), fun h => absurd hc h.2⟩
    · rw [if_neg hc]
      have hw : IntOp.andi w 1#1 = w := (by decide : ∀ w : BitVec 1, IntOp.andi w 1#1 = w) w
      rw [hw]
      exact ⟨fun h => ⟨h, hc⟩, fun h => h.1⟩
  | succ k =>
    refine ⟨fun h => ⟨h, fun e => ?_⟩, fun h => h.1⟩
    have := congrArg Fin.val e
    simp only [Lanes.col, rowOf] at this
    omega

/-- What a lane keeps depends on the steps taken only. -/
theorem two_congr (v w : ℕ → EReal) (n : ℕ) (h : ∀ k, k < n → v k = w k) : Top.two v n = Top.two w n := by
  induction n with
  | zero => rfl
  | succ n ih =>
    have e := ih fun k hk => h k (Nat.lt_succ_of_lt hk)
    have e' := h n (Nat.lt_succ_self n)
    simp only [Top.two, e, e']

/-- What the kernel computes at a row of a block is the row's loss. -/
theorem losses_row (h0 : ∀ (r : Fin 256) (d : Fin 128), (x0 (ix2 r d) : EReal) = ((A (rowOf (i 0) r) d : ℝ) : EReal))
    (h1 : ∀ (q : Fin 4096) (d : Fin 128), (x1 (ix2 q d) : EReal) = ((A q d : ℝ) : EReal))
    (h2 : ∀ q : Fin 4096, x2 (ix2 0 q) = L q) (r : Fin 256) (π : Fin 3 → Fin 4096)
    (hp : ∀ l, ¬Loss.Pos L (rowOf (i 0) r) (π l))
    (hab : Loss.sim A (rowOf (i 0) r) (π 1) < Loss.sim A (rowOf (i 0) r) (π 0))
    (hbd : Loss.sim A (rowOf (i 0) r) (π 2) < Loss.sim A (rowOf (i 0) r) (π 1))
    (hle : ∀ q, q ≠ π 0 → q ≠ π 1 → ¬Loss.Pos L (rowOf (i 0) r) q → Loss.sim A (rowOf (i 0) r) q ≤ Loss.sim A (rowOf (i 0) r) (π 2))
    (hlane : ¬((π 0).val % 256 = (π 1).val % 256 ∧ (π 1).val % 256 = (π 2).val % 256)) :
    (losses (posSum (accN (simsAt x0 x1 i) (posAt (F := Ideal) x2 i) 16))
      (negSum (cand (topN (simsAt x0 x1 i) (posAt (F := Ideal) x2 i) 16) (nextN (simsAt x0 x1 i) (posAt (F := Ideal) x2 i) 16)))
      (ix1 r) : EReal) = ((Loss.loss A L (rowOf (i 0) r) π : ℝ) : EReal) := by
  classical
  have hinv : 0 < (Real.log 2)⁻¹ := inv_pos.2 (Real.log_pos one_lt_two)
  have hS := simsAt_at A x0 x1 i h0 h1
  have hP := posAt_at L x2 i h2
  have hneg : ∀ (c : Fin 256) (k : ℕ), k < 16 → neg (simsAt x0 x1 i) (posAt (F := Ideal) x2 i) r c k
      = val A L (rowOf (i 0) r) (Lanes.col (i 0).val c k) := by
    intro c k hk
    unfold neg val
    rw [hS r c k hk]
    exact if_congr (hP r c k hk) rfl rfl
  have hpos : ∀ (c : Fin 256) (k : ℕ), k < 16 → pos (simsAt x0 x1 i) (posAt (F := Ideal) x2 i) r c k
      = ((Loss.share A L (rowOf (i 0) r) (Lanes.col (i 0).val c k) : ℝ) : EReal) := by
    intro c k hk
    unfold pos Loss.share
    rw [hS r c k hk, exp2_sim]
    by_cases h : Loss.Pos L (rowOf (i 0) r) (Lanes.col (i 0).val c k)
    · rw [if_pos ((hP r c k hk).2 h), if_pos h]
    · rw [if_neg fun h' => h ((hP r c k hk).1 h'), if_neg h]; rfl
  generalize simsAt x0 x1 i = s at hneg hpos ⊢
  generalize posAt (F := Ideal) x2 i = p at hneg hpos ⊢
  generalize rowOf (i 0) r = R at hneg hpos hp hab hbd hle ⊢
  have hval : ∀ l, val A L R (π l) = ((Loss.sim A R (π l) * (Real.log 2)⁻¹ : ℝ) : EReal) := fun l => if_neg (hp l)
  have scaled : ∀ x y : ℝ, x < y → ((x * (Real.log 2)⁻¹ : ℝ) : EReal) < ((y * (Real.log 2)⁻¹ : ℝ) : EReal) :=
    fun x y h => EReal.coe_lt_coe_iff.2 (mul_lt_mul_of_pos_right h hinv)
  have hps : (posSum (accN s p 16) (ix1 r) : EReal) = ((∑ q, Loss.share A L R q : ℝ) : EReal) := by
    rw [posSum_at, ← Loss.sum_coe, ← Lanes.sum_lanes (i 0).val]
    refine Finset.sum_congr rfl fun c _ => ?_
    rw [accN_at]
    exact Finset.sum_congr rfl fun k hk => hpos c k (Finset.mem_range.1 hk)
  have hns : (negSum (cand (topN s p 16) (nextN s p 16)) (ix1 r) : EReal)
      = ((Real.exp (Loss.sim A R (π 0)) + Real.exp (Loss.sim A R (π 1)) + Real.exp (Loss.sim A R (π 2)) : ℝ) : EReal) := by
    rw [negSum_at _ r (val A L R (π 0)) (val A L R (π 1)) (val A L R (π 2))]
    · rw [hval, hval, hval, exp2_sim, exp2_sim, exp2_sim, EReal.coe_add, EReal.coe_add]
    refine Lanes.three (i 0).val (val A L R) (π 0) (π 1) (π 2) ?_ ?_ ?_ hlane _ fun j => ?_
    · rw [hval, hval]; exact scaled _ _ hab
    · rw [hval, hval]; exact scaled _ _ hbd
    · intro q h0 h1
      rw [hval]
      by_cases hq : Loss.Pos L R q
      · exact le_of_eq_of_le (if_pos hq) bot_le
      · rw [val, if_neg hq]
        exact EReal.coe_le_coe_iff.2 (mul_le_mul_of_nonneg_right (hle q h0 h1 hq) hinv.le)
    · rw [cand_at]
      by_cases h : j.val < 256
      · rw [dif_pos h, dif_pos h, topN_at, two_congr _ _ 16 (hneg ⟨j.val, h⟩)]
      · rw [dif_neg h, dif_neg h, nextN_at, two_congr _ _ 16 (hneg ⟨j.val - 256, by omega⟩)]
  rw [losses_at, hps, hns, ← EReal.coe_add, ← EReal.coe_add, ← EReal.coe_add]
  have hp0 := Loss.posTotal_pos A L R
  have hn0 := Loss.negTotal_pos A R π
  change Ideal.log ((Loss.posTotal A L R + Loss.negTotal A R π : ℝ) : EReal) - Ideal.log ((Loss.posTotal A L R : ℝ) : EReal) = _
  rw [Loss.log_pos _ (add_pos hp0 hn0), Loss.log_pos _ hp0, ← EReal.coe_sub]
  rfl

end Cert.KernelIdeal.Body

end
-- ==== Proof.Pre.lean ====
/- What the precondition says, over the extended reals: finite features, and in every row three hardest negatives that
   are strictly ordered, are no positives, and do not fall all into one lane. -/
module

public import proofs.«01_k».proof.Proof.Gen.Pre_mined
public import proofs.«01_k».proof.Proof.Loss
public import Idealize.ShloMosaic.Lib.ReduceAll
public import proofs.«01_k».proof.Proof.Words

@[expose] public section

set_option maxRecDepth 16384

noncomputable section

open Idealize.ShloMosaic

namespace Cert.Pre_mined.Steps

open Cert.Pre_mined Cert.Pre_mined.Gen Cert.Proof

section Named

variable {F : FTy → Type} [FloatOps F]

/-- The positives. -/
def positives (l : IVec S4096 32) : IVec S4096x4096 1 :=
  andi (cmpi .eq (broadcastInDim S4096x4096 ![0, 1] bcast_S1x4096_S4096x4096_0_1 (broadcastInDim S1x4096 ![1] bcast_S4096_S1x4096_1 l))
      (broadcastInDim S4096x4096 ![0, 1] bcast_S4096x1_S4096x4096_0_1 (broadcastInDim S4096x1 ![0] bcast_S4096_S4096x1_0 l)))
    (noti (cmpi .eq (addi (iotaInDim S4096x4096 32 0) (broadcastInDim S4096x4096 ![] bcast_S_S4096x4096 (constantI S_ 32 0#32)))
      (iotaInDim S4096x4096 32 1)))

/-- The similarities, the positives put far below. -/
def masked (x : FVec F S4096x128 .f32) (l : IVec S4096 32) : FVec F S4096x4096 .f32 :=
  fn_where (F := F) (positives l) (constant S_ .f32 0xCE6E6B28#32)
    (Host.divf (Host.dotGeneral dot_S4096x128_S128x4096_S4096x4096_1_0_0_1_n_n none x
        (transpose S128x4096 [1, 0] x transposes_S4096x128_S128x4096_1_0))
      (broadcastInDim S4096x4096 ![] bcast_S_S4096x4096 (constant S_ .f32 0x3DCCCCCD#32)))

/-- The three greatest of each row, and their columns. -/
def vals (x : FVec F S4096x128 .f32) (l : IVec S4096 32) : FVec F S4096x3 .f32 :=
  (Host.topK S4096x3 1 (FloatOps.cmpfTotal .gt) (masked x l) sliceFits_S4096x4096_S4096x3).1
def cols (x : FVec F S4096x128 .f32) (l : IVec S4096 32) : IVec S4096x3 32 :=
  (Host.topK S4096x3 1 (FloatOps.cmpfTotal .gt) (masked x l) sliceFits_S4096x4096_S4096x3).2

/-- Place `0`, `1` or `2` of the three, as a vector over the rows. -/
def at0 {α : Type} (y : S4096x3.Idx → α) : S4096.Idx → α :=
  shapeCast S4096 (extractStridedSlice S4096x1 ![0, 0] y slices_S4096x3_S4096x1_0_0) shapeCasts_S4096x1_S4096
def at1 {α : Type} (y : S4096x3.Idx → α) : S4096.Idx → α :=
  shapeCast S4096 (extractStridedSlice S4096x1 ![0, 1] y slices_S4096x3_S4096x1_0_1) shapeCasts_S4096x1_S4096
def at2 {α : Type} (y : S4096x3.Idx → α) : S4096.Idx → α :=
  shapeCast S4096 (extractStridedSlice S4096x1 ![0, 2] y slices_S4096x3_S4096x1_0_2) shapeCasts_S4096x1_S4096

/-- The rows whose features are finite. -/
def finiteRows (x : FVec F S4096x128 .f32) : IVec S4096 1 :=
  Host.reduce IntOp.andi (cmpf .olt (Host.absf x) (broadcastInDim S4096x128 ![] bcast_S_S4096x128 (constant S_ .f32 0x7F800000#32)))
    (constantI S_ 1 1#1) reducesTo_S4096x128_S4096_d1 h_S_

/-- The rows whose three greatest are strictly ordered. -/
def strict (v : FVec F S4096x3 .f32) : IVec S4096 1 := andi (cmpf .ogt (at0 v) (at1 v)) (cmpf .ogt (at1 v) (at2 v))

/-- The rows whose third greatest is no positive's. -/
def above (v : FVec F S4096x3 .f32) : IVec S4096 1 :=
  cmpf .ogt (at2 v) (broadcastInDim S4096 ![] bcast_S_S4096 (constant S_ .f32 0xCE6E6B28#32))

/-- The lanes of the three columns. -/
def lanes (h : IVec S4096x3 32) : IVec S4096x3 32 :=
  andi h (broadcastInDim S4096x3 ![] bcast_S_S4096x3 (constantI S_ 32 255#32))

/-- The rows whose three columns share a lane. -/
def oneLane (w : IVec S4096x3 32) : IVec S4096 1 := andi (cmpi .eq (at0 w) (at1 w)) (cmpi .eq (at1 w) (at2 w))

theorem fn_eq (x : FVec F S4096x128 .f32) (l : IVec S4096 32) :
    fn (F := F) x l = andi (andi (andi (finiteRows x) (strict (vals x l))) (above (vals x l))) (noti (oneLane (lanes (cols x l)))) := by
  unfold fn fn_part1 fn_part2
  rfl

end Named

variable (x : FVec Ideal S4096x128 .f32) (l : IVec S4096 32)

theorem at0_at {α : Type} (y : S4096x3.Idx → α) (r : Fin 4096) : at0 y (ix1 r) = y (ix2 r 0) := by pointwise [at0]
theorem at1_at {α : Type} (y : S4096x3.Idx → α) (r : Fin 4096) : at1 y (ix1 r) = y (ix2 r 1) := by pointwise [at1]
theorem at2_at {α : Type} (y : S4096x3.Idx → α) (r : Fin 4096) : at2 y (ix1 r) = y (ix2 r 2) := by pointwise [at2]

theorem positives_at (r q : Fin 4096) : positives l (ix2 r q) = 1#1 ↔ Loss.Pos (fun q => l (ix1 q)) r q := by
  pointwise [positives]
  rw [Words.and_one, Words.not_one, Words.word_eq, Words.diagonal]
  exact and_congr eq_comm (not_congr eq_comm)

theorem masked_at (A : Fin 4096 → Fin 128 → ℝ) (hx : ∀ (q : Fin 4096) (d : Fin 128), (x (ix2 q d) : EReal) = ((A q d : ℝ) : EReal))
    (r q : Fin 4096) : (masked x l (ix2 r q) : EReal) = Loss.shown A (fun q => l (ix1 q)) r q := by
  have hp := positives_at l r q
  pointwise [masked, fn_where]
  rw [Loss.sim_quotient A r q _ _ (fun d => hx r d) fun d => hx q d]
  unfold Scalar.select Loss.shown
  classical
  by_cases h : Loss.Pos (fun q => l (ix1 q)) r q
  · rw [if_pos h, if_pos (show positives l (ix2 r q) = 1 from hp.2 h)]
    exact Consts.bits_mask
  · rw [if_neg h, if_neg (show ¬positives l (ix2 r q) = 1 from fun h' => h (hp.1 h'))]

theorem finite_at (r : Fin 4096) (h : finiteRows x (ix1 r) = 1#1) (d : Fin 128) :
    (x (ix2 r d) : EReal) = ((EReal.toReal (x (ix2 r d)) : ℝ) : EReal) := by
  have hd : reducesTo_S4096x128_S4096_d1.drop (ix2 r d) = ix1 r := by
    funext a
    match a with
    | 0 => rfl
  have h1 := Host.reduce_andi_eq_one _ _ reducesTo_S4096x128_S4096_d1 h_S_ (ix1 r) h (ix2 r d) hd
  pointwise [] at h1
  rw [Words.bool_one, Consts.bits_high] at h1
  have h2 : max (x (ix2 r d) : EReal) (-(x (ix2 r d) : EReal)) < ⊤ := h1
  refine (EReal.coe_toReal ?_ ?_).symm
  · exact fun e => lt_irrefl _ (lt_of_le_of_lt (le_of_eq_of_le e.symm (le_max_left _ _)) h2)
  · intro e
    refine lt_irrefl _ (lt_of_le_of_lt (le_of_eq_of_le ?_ (le_max_right (x (ix2 r d) : EReal) _)) h2)
    rw [e]
    rfl

theorem strict_at (v : FVec Ideal S4096x3 .f32) (r : Fin 4096) : strict v (ix1 r) = 1#1
    ↔ ((v (ix2 r 1) : EReal) < v (ix2 r 0)) ∧ ((v (ix2 r 2) : EReal) < v (ix2 r 1)) := by
  pointwise [strict]
  rw [Words.and_one, Words.bool_one, Words.bool_one, at0_at, at1_at, at2_at]

theorem above_at (v : FVec Ideal S4096x3 .f32) (r : Fin 4096) : above v (ix1 r) = 1#1
    ↔ ((-1000000000 : ℝ) : EReal) < v (ix2 r 2) := by
  pointwise [above]
  rw [Words.bool_one, at2_at, Consts.bits_mask]

theorem oneLane_at (h : IVec S4096x3 32) (r : Fin 4096) (π : Fin 3 → Fin 4096) (e : ∀ k, h (ix2 r k) = BitVec.ofNat 32 (π k).val) :
    oneLane (lanes h) (ix1 r) = 1#1 ↔ ((π 0).val % 256 = (π 1).val % 256 ∧ (π 1).val % 256 = (π 2).val % 256) := by
  have hw : ∀ k, lanes h (ix2 r k) = IntOp.andi (BitVec.ofNat 32 (π k).val) 255#32 := by
    intro k
    pointwise [lanes]
    rw [e]
  pointwise [oneLane]
  rw [Words.and_one, Words.word_eq, Words.word_eq, at0_at, at1_at, at2_at, hw, hw, hw,
    Words.lane_eq _ _ (π 0).isLt (π 1).isLt, Words.lane_eq _ _ (π 1).isLt (π 2).isLt]

/-- What the precondition says of a row. -/
theorem decode (h : fn (F := Ideal) x l = fun _ => 1#1) :
    (∀ r d, (x (ix2 r d) : EReal) = ((EReal.toReal (x (ix2 r d)) : ℝ) : EReal))
    ∧ ∀ (A : Fin 4096 → Fin 128 → ℝ) (hx : ∀ (q : Fin 4096) (d : Fin 128), (x (ix2 q d) : EReal) = ((A q d : ℝ) : EReal)) (r : Fin 4096),
      (∀ k, ¬Loss.Pos (fun q => l (ix1 q)) r (Loss.hardest A (fun q => l (ix1 q)) r k))
      ∧ Loss.sim A r (Loss.hardest A (fun q => l (ix1 q)) r 1) < Loss.sim A r (Loss.hardest A (fun q => l (ix1 q)) r 0)
      ∧ Loss.sim A r (Loss.hardest A (fun q => l (ix1 q)) r 2) < Loss.sim A r (Loss.hardest A (fun q => l (ix1 q)) r 1)
      ∧ (∀ q, q ≠ Loss.hardest A (fun q => l (ix1 q)) r 0 → q ≠ Loss.hardest A (fun q => l (ix1 q)) r 1 →
          ¬Loss.Pos (fun q => l (ix1 q)) r q → Loss.sim A r q ≤ Loss.sim A r (Loss.hardest A (fun q => l (ix1 q)) r 2))
      ∧ ¬((Loss.hardest A (fun q => l (ix1 q)) r 0).val % 256 = (Loss.hardest A (fun q => l (ix1 q)) r 1).val % 256
        ∧ (Loss.hardest A (fun q => l (ix1 q)) r 1).val % 256 = (Loss.hardest A (fun q => l (ix1 q)) r 2).val % 256) := by
  rw [fn_eq] at h
  have parts : ∀ r, finiteRows x (ix1 r) = 1#1 ∧ strict (vals x l) (ix1 r) = 1#1 ∧ above (vals x l) (ix1 r) = 1#1
      ∧ ¬oneLane (lanes (cols x l)) (ix1 r) = 1#1 := by
    intro r
    have e := congrFun h (ix1 r)
    change IntOp.andi (IntOp.andi (IntOp.andi (finiteRows x (ix1 r)) (strict (vals x l) (ix1 r))) (above (vals x l) (ix1 r)))
      (~~~(oneLane (lanes (cols x l)) (ix1 r))) = 1#1 at e
    rw [Words.and_one, Words.and_one, Words.and_one, Words.not_one] at e
    exact ⟨e.1.1.1, e.1.1.2, e.1.2, e.2⟩
  refine ⟨fun r d => finite_at x r (parts r).1 d, fun A hx r => ?_⟩
  obtain ⟨_, hs, ha, hl⟩ := parts r
  generalize hL : (fun q => l (ix1 q)) = L
  have row : (fun q => (masked x l (ix2 r q) : EReal)) = Loss.shown A L r := by
    rw [← hL]
    exact funext fun q => masked_at x l A hx r q
  have hv : ∀ k, (vals x l (ix2 r k) : EReal) = Loss.shown A L r (Loss.hardest A L r k) := by
    intro k
    have e := TopK.vals_at (by decide) (masked x l) sliceFits_S4096x4096_S4096x3 r k
    rw [row] at e
    exact e.trans (congrFun row _)
  have hc : ∀ k, cols x l (ix2 r k) = BitVec.ofNat 32 (Loss.hardest A L r k).val := by
    intro k
    have e := TopK.cols_at (by decide) (masked x l) sliceFits_S4096x4096_S4096x3 r k
    rw [row] at e
    exact e
  rw [strict_at, hv, hv, hv] at hs
  rw [above_at, hv] at ha
  rw [oneLane_at _ r (Loss.hardest A L r) hc] at hl
  have far : ∀ q, Loss.Pos L r q → Loss.shown A L r q = ((-1000000000 : ℝ) : EReal) := fun q h => if_pos h
  have near : ∀ q, ¬Loss.Pos L r q → Loss.shown A L r q = ((Loss.sim A r q : ℝ) : EReal) := fun q h => if_neg h
  have n2 : ¬Loss.Pos L r (Loss.hardest A L r 2) := fun h => lt_irrefl _ (lt_of_lt_of_eq ha (far _ h))
  have n1 : ¬Loss.Pos L r (Loss.hardest A L r 1) := fun h => lt_irrefl _ (lt_of_lt_of_eq (ha.trans hs.2) (far _ h))
  have n0 : ¬Loss.Pos L r (Loss.hardest A L r 0) := fun h => lt_irrefl _ (lt_of_lt_of_eq (ha.trans (hs.2.trans hs.1)) (far _ h))
  have last : ∀ q, q ≠ Loss.hardest A L r 0 → q ≠ Loss.hardest A L r 1 →
      Loss.shown A L r q ≤ Loss.shown A L r (Loss.hardest A L r 2) := TopK.rest_le (by decide) (Loss.shown A L r)
  rw [near _ n0, near _ n1, near _ n2, EReal.coe_lt_coe_iff, EReal.coe_lt_coe_iff] at hs
  refine ⟨fun k => ?_, hs.1, hs.2, fun q q0 q1 hq => ?_, hl⟩
  · match k with
    | 0 => exact n0
    | 1 => exact n1
    | 2 => exact n2
  · have e := last q q0 q1
    rw [near _ hq, near _ n2, EReal.coe_le_coe_iff] at e
    exact e

end Cert.Pre_mined.Steps

end
-- ==== Proof.Final.lean ====
/- The kernel's result: the blocks of a grid point read off the arguments, what the point adds, and the sum over the grid. -/
module

public import proofs.«01_k».proof.Proof.Row
public import proofs.«01_k».proof.Proof.Pre
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen Cert.Proof

/-- Which block of its array every window holds at a grid point. -/
theorem idx : ∀ t : Fin cfg0.N, (grid0.coords t 0).val = t.val ∧ win0_0.index t = ![t.val, 0] ∧ win0_1.index t = ![0, 0]
    ∧ win0_2.index t = ![0, 0] ∧ win0_3.index t = ![0, 0] :=
  (by decide +kernel : ∀ t : Fin grid0.N, _)

variable (m : (ℓ : Loc nD τ sig) → Buf (Elt Ideal) ℓ) (c : Dev nD)

/-- The features of the run. -/
abbrev feat : FVec Ideal S4096x128 .f32 := m ((c.tc : Thread nD τ).loc main_arg0)

/-- The labels of the run. -/
abbrev labs : IVec S4096 32 := m ((c.tc : Thread nD τ).loc main_arg1)

theorem rows_at (t : Fin cfg0.N) (r : Fin 256) (d : Fin 128) :
    (iblk m c 0 t (ix2 r d) : EReal) = (feat m c (ix2 (rowOf (grid0.coords t 0) r) d) : EReal) := by
  have e := (idx t).1
  have h : rowOf (grid0.coords t 0) r = ⟨t.val * 256 + r.val, by rw [← e]; exact (rowOf (grid0.coords t 0) r).isLt⟩ :=
    Fin.ext (congrArg (fun n => n * 256 + r.val) e)
  rw [h]
  blk_ext [iblk, V, idx t]

theorem all_at (t : Fin cfg0.N) (q : Fin 4096) (d : Fin 128) :
    (iblk m c 1 t (ix2 q d) : EReal) = (feat m c (ix2 q d) : EReal) := by
  blk_ext [iblk, V, idx t]

/-- The labels the kernel is given: the argument, as one row. -/
theorem V_labels : V m c main_v0 = shapeCast S1x4096 (labs m c) shapeCasts_S4096_S1x4096 := rfl

theorem labels_at (t : Fin cfg0.N) (q : Fin 4096) : iblk m c 2 t (ix2 0 q) = labs m c (ix1 q) := by
  blk_simp [iblk, idx t]
  rw [V_labels]
  pointwise
  blk_ext [idx t]

/-- The mean of the rows' losses, of the three hardest negatives. -/
def mean (A : Fin 4096 → Fin 128 → ℝ) (L : Fin 4096 → BitVec 32) : ℝ :=
  (∑ r, Loss.loss A L r (Loss.hardest A L r)) * (1 / 4096)

variable (hm : Cert.Pre_mined.fn (F := Ideal) (feat m c) (labs m c) = fun _ => 1#1)
  (A : Fin 4096 → Fin 128 → ℝ) (hA : ∀ (q : Fin 4096) (d : Fin 128), (feat m c (ix2 q d) : EReal) = ((A q d : ℝ) : EReal))

include hm hA in
/-- What a grid point adds. -/
theorem part_at (t : Fin cfg0.N) :
    (part (grid0.coords t) (iblk m c 0 t) (iblk m c 1 t) (iblk m c 2 t) (ix2 0 0) : EReal)
      = (((∑ r : Fin 256, Loss.loss A (fun q => labs m c (ix1 q)) (rowOf (grid0.coords t 0) r)
          (Loss.hardest A (fun q => labs m c (ix1 q)) (rowOf (grid0.coords t 0) r))) * (1 / 4096) : ℝ) : EReal) := by
  have rows := (Cert.Pre_mined.Steps.decode (feat m c) (labs m c) hm).2 A hA
  unfold part
  rw [share_at, EReal.coe_mul, ← Loss.sum_coe]
  refine congrArg (· * (((1 / 4096 : ℝ)) : EReal)) (Finset.sum_congr rfl fun r _ => ?_)
  obtain ⟨h0, h1, h2, h3, h4⟩ := rows (rowOf (grid0.coords t 0) r)
  exact losses_row A (fun q => labs m c (ix1 q)) (iblk m c 0 t) (iblk m c 1 t) (iblk m c 2 t) (grid0.coords t)
    (fun r d => (rows_at m c t r d).trans (hA _ d)) (fun q d => (all_at m c t q d).trans (hA q d)) (labels_at m c t) r _ h0 h1 h2 h3 h4

/-- A sum over the grid points and the rows of their blocks is the sum over all rows. -/
theorem sum_points (f : Fin 4096 → ℝ) :
    ∑ t : Fin cfg0.N, ∑ r : Fin 256, f (rowOf (grid0.coords t 0) r) = ∑ q, f q := by
  rw [Fin.sum_univ_tiles 16 256 (by decide) f]
  refine Fintype.sum_equiv (finCongr N_0) _ _ fun t => Finset.sum_congr rfl fun r _ => congrArg f (Fin.ext ?_)
  exact congrArg (fun n => n * 256 + r.val) (idx t).1

include hm hA in
/-- What the last grid point leaves in the 1 x 1 block. -/
theorem last_at : (outsAt0 m c t0_15.val t0_15.isLt (ix2 0 0) : EReal) = ((mean A (fun q => labs m c (ix1 q)) : ℝ) : EReal) := by
  refine (Pipeline.eq_sum_fin_of_reset_step_apply_last (ι := S1x1.Idx) (M := EReal) (fun n h => outsAt0 m c n h) 16 (fun _ => 0)
    (fun t => part (grid0.coords t) (iblk m c 0 t) (iblk m c 1 t) (iblk m c 2 t))
    (fun t h j => ?_) (fun t h j => ?_) (le_of_eq N_0) t0_15 rfl (ix2 0 0)).trans ?_
  · have ht : t.val < 16 := lt_of_lt_of_eq t.isLt N_0
    rw [out_first m c t h (by omega), zero_add]
  · rw [out_later m c t h (by omega)]
    rfl
  · rw [zero_add, Finset.sum_congr rfl fun t _ => part_at m c hm A hA t, Loss.sum_coe, ← Finset.sum_mul,
      sum_points fun q => Loss.loss A (fun q => labs m c (ix1 q)) q (Loss.hardest A (fun q => labs m c (ix1 q)) q)]
    rfl

include hm hA in
/-- What the kernel leaves in its 1 x 1 array. -/
theorem final : (dats m 0 c).arrAt 3 (cfgs 0).N
    = fun _ => ((mean A (fun q => labs m c (ix1 q)) : ℝ) : EReal) := by
  refine (dats m 0 c).arrAt_eq_of_after_last 3 t0_15 (by decide +kernel) _ fun j => ?_
  blk_simp
  rw [after0_3]
  refine Eq.trans (congrArg _ ?_) (last_at m c hm A hA)
  idx_ext

/-- The result the run leaves: the 1 x 1 array reshaped. -/
theorem result_eq : Pipeline.afterTail₀ cfgs (dats m) 0 (V0 m) [hostOps1] c main_v2
    = shapeCast S_ ((dats m 0 c).arrAt 3 (cfgs 0).N) shapeCasts_S1x1_S_ := by
  refine Eq.trans (b := shapeCast S_ (Pipeline.withArrays (cfgs 0).spec c (V0 m c) (fun w => (dats m 0 c).arrAt w (cfgs 0).N)
    (Proc.devRef .tc (Pipeline.arrRef (cfgs 0).spec 3))) shapeCasts_S1x1_S_) rfl ?_
  rw [(dats m 0 c).withArrays_arrAt sharedIn0 (V0 m c) (A_eq m c) 3]

include hm hA in
/-- The kernel's result. -/
theorem result (j : S_.Idx) : (Pipeline.afterTail₀ cfgs (dats m) 0 (V0 m) [hostOps1] c main_v2 j : EReal)
    = ((mean A (fun q => labs m c (ix1 q)) : ℝ) : EReal) := by
  rw [result_eq, final m c hm A hA]
  rfl

end Cert.KernelIdeal.Body

end
-- ==== Proof.Ref.lean ====
/- The reference's composed term in named steps, and the steps read at an index over the extended reals. -/
module

public import proofs.«01_k».proof.Proof.Gen.ReferenceIdeal.Run
public import proofs.«01_k».proof.Proof.TopK
public import proofs.«01_k».proof.Proof.Loss
public import Idealize.ShloMosaic.Lib.Routing.OpsSet
public import proofs.«01_k».proof.Proof.Words

@[expose] public section

set_option maxRecDepth 16384

noncomputable section

open Idealize.ShloMosaic Idealize.ShloMosaic.TcCoe Idealize.SL.Sem

namespace Cert.ReferenceIdeal.Steps

open Cert.ReferenceIdeal Cert.ReferenceIdeal.Gen Cert.Proof

section Named

variable {F : FTy → Type} [FloatOps F]

/-- The similarities of all pairs. -/
def simAll (x : FVec F S4096x128 .f32) : FVec F S4096x4096 .f32 :=
  Host.divf (Host.dotGeneral dot_S4096x128_S128x4096_S4096x4096_1_0_0_1_n_n none x
      (transpose S128x4096 [1, 0] x transposes_S4096x128_S128x4096_1_0))
    (broadcastInDim S4096x4096 ![] bcast_S_S4096x4096 (constant S_ .f32 0x3DCCCCCD#32))

/-- The diagonal. -/
def eye : IVec S4096x4096 1 :=
  cmpi .eq (addi (iotaInDim S4096x4096 32 0) (broadcastInDim S4096x4096 ![] bcast_S_S4096x4096 (constantI S_ 32 0#32)))
    (iotaInDim S4096x4096 32 1)

/-- The pairs of equal labels. -/
def equalLabels (l : IVec S4096 32) : IVec S4096x4096 1 :=
  cmpi .eq (broadcastInDim S4096x4096 ![0, 1] bcast_S1x4096_S4096x4096_0_1 (broadcastInDim S1x4096 ![1] bcast_S4096_S1x4096_1 l))
    (broadcastInDim S4096x4096 ![0, 1] bcast_S4096x1_S4096x4096_0_1 (broadcastInDim S4096x1 ![0] bcast_S4096_S4096x1_0 l))

/-- The mask of the positives: one at equal labels off the diagonal. -/
def posMask (l : IVec S4096 32) : FVec F S4096x4096 .f32 :=
  select eye (broadcastInDim S4096x4096 ![] bcast_S_S4096x4096 (id (constant S_ .f32 0x00000000#32)))
    (uitofp .f32 (equalLabels l))

/-- The similarities with the positives put far below. -/
def negSims (x : FVec F S4096x128 .f32) (l : IVec S4096 32) : FVec F S4096x4096 .f32 :=
  select (id (cmpf .une (posMask l : FVec F S4096x4096 .f32) (broadcastInDim S4096x4096 ![] bcast_S_S4096x4096 (constant S_ .f32 0x00000000#32))))
    (broadcastInDim S4096x4096 ![] bcast_S_S4096x4096 (id (constant S_ .f32 0xCE6E6B28#32))) (simAll x)

/-- The three columns of each row. -/
def hardest (x : FVec F S4096x128 .f32) (l : IVec S4096 32) : IVec S4096x3 32 :=
  (Host.topK S4096x3 1 (FloatOps.cmpfTotal .gt) (negSims x l) sliceFits_S4096x4096_S4096x3).2

/-- Each row's own number, as it stands beside the columns chosen. -/
def rowIdx : IVec S4096x3x1 32 :=
  broadcastInDim S4096x3x1 ![0, 1] bcast_S4096x3_S4096x3x1_0_1 (broadcastInDim S4096x3 ![0, 1] bcast_S4096x1_S4096x3_0_1
    (select (cmpi .slt (broadcastInDim S4096x1 ![0] bcast_S4096_S4096x1_0 (iotaInDim S4096 32 0))
        (broadcastInDim S4096x1 ![] bcast_S_S4096x1 (constantI S_ 32 0#32)))
      (addi (broadcastInDim S4096x1 ![0] bcast_S4096_S4096x1_0 (iotaInDim S4096 32 0))
        (broadcastInDim S4096x1 ![] bcast_S_S4096x1 (constantI S_ 32 4096#32)))
      (broadcastInDim S4096x1 ![0] bcast_S4096_S4096x1_0 (iotaInDim S4096 32 0))))

/-- The columns chosen, wrapped where negative. -/
def colIdx (h : IVec S4096x3 32) : IVec S4096x3x1 32 :=
  broadcastInDim S4096x3x1 ![0, 1] bcast_S4096x3_S4096x3x1_0_1
    (select (cmpi .slt h (broadcastInDim S4096x3 ![] bcast_S_S4096x3 (constantI S_ 32 0#32)))
      (addi h (broadcastInDim S4096x3 ![] bcast_S_S4096x3 (constantI S_ 32 4096#32))) h)

/-- The places of the mask of the negatives. -/
def places (h : IVec S4096x3 32) : IVec S4096x3x2 32 :=
  concatenate S4096x3x2 2 [⟨S4096x3x1, rowIdx⟩, ⟨S4096x3x1, colIdx h⟩] concatenates_S4096x3x1_S4096x3x1_S4096x3x2_d2

/-- The mask of the negatives: ones at the places, zeros elsewhere. -/
def negMask (h : IVec S4096x3 32) : FVec F S4096x4096 .f32 :=
  Host.scatter scatter_S4096x4096_S4096x3x2_S4096x3_n_01_01_2 (fun _ b => b)
    (broadcastInDim S4096x4096 ![] bcast_S_S4096x4096 (constant S_ .f32 0x00000000#32)) (places h)
    (broadcastInDim S4096x3 ![] bcast_S_S4096x3 (constant S_ .f32 0x3F800000#32))

/-- The masked sum of each row's exponentials, shifted. -/
def total (s w : FVec F S4096x4096 .f32) : FVec F S4096 .f32 :=
  addf (Host.reduceAdd (mulf (Host.exp s) w) (constant S_ .f32 0x00000000#32) reducesTo_S4096x4096_S4096_d1 h_S_)
    (broadcastInDim S4096 ![] bcast_S_S4096 (constant S_ .f32 0x2EDBE6FF#32))

/-- The loss of each row, of the two sums. -/
def rowLoss (p n : FVec F S4096 .f32) : FVec F S4096 .f32 := Host.negf (Host.log (Host.divf p (addf p n)))

/-- The mean over the rows. -/
def mean (v : FVec F S4096 .f32) : FVec F S_ .f32 :=
  Host.divf (Host.reduceAdd v (constant S_ .f32 0x00000000#32) reducesTo_S4096_S_d0 h_S_) (constant S_ .f32 0x45800000#32)

/-- The whole reference. -/
def whole (x : FVec F S4096x128 .f32) (l : IVec S4096 32) : FVec F S_ .f32 :=
  mean (rowLoss (total (simAll x) (posMask l)) (total (simAll x) (negMask (hardest x l))))

theorem res_eq (m : (ℓ : Loc nD τ sig) → Buf (Elt F) ℓ) (c : Dev nD) :
    Value.res_out0 m c = whole (F := F) (m ((c.tc : Thread nD τ).loc main_arg0)) (m ((c.tc : Thread nD τ).loc main_arg1)) := by
  unfold Value.res_out0 Value.res_main_v53
  rfl

end Named

theorem siIdx_at (r : Fin 4096) (l : Fin 3) (k : Fin 2) :
    scatter_S4096x4096_S4096x3x2_S4096x3_n_01_01_2.siIdx (ix2 r l) k = ix3 r l k := by
  funext a
  match a with
  | 0 => rfl
  | 1 => rfl
  | 2 => rfl

theorem lands (idx : IVec S4096x3x2 32) (r : Fin 4096) (l : Fin 3) (q : Fin 4096)
    (h0 : (idx (ix3 r l 0)).toInt = r.val) (h1 : (idx (ix3 r l 1)).toInt = q.val) :
    scatter_S4096x4096_S4096x3x2_S4096x3_n_01_01_2.resultIdx? (ix2 r l) idx = some (ix2 r q) := by
  have s0 : scatter_S4096x4096_S4096x3x2_S4096x3_n_01_01_2.start (ix2 r l) idx 0 = r.val := by
    rw [← h0, ← siIdx_at]; rfl
  have s1 : scatter_S4096x4096_S4096x3x2_S4096x3_n_01_01_2.start (ix2 r l) idx 1 = q.val := by
    rw [← h1, ← siIdx_at]; rfl
  have w0 : scatter_S4096x4096_S4096x3x2_S4096x3_n_01_01_2.window (ix2 r l) 0 = 0 := rfl
  have w1 : scatter_S4096x4096_S4096x3x2_S4096x3_n_01_01_2.window (ix2 r l) 1 = 0 := rfl
  have hr := r.isLt
  have hq := q.isLt
  have inb : ∀ a, 0 ≤ scatter_S4096x4096_S4096x3x2_S4096x3_n_01_01_2.start (ix2 r l) idx a
        + scatter_S4096x4096_S4096x3x2_S4096x3_n_01_01_2.window (ix2 r l) a
      ∧ scatter_S4096x4096_S4096x3x2_S4096x3_n_01_01_2.start (ix2 r l) idx a
        + scatter_S4096x4096_S4096x3x2_S4096x3_n_01_01_2.window (ix2 r l) a < S4096x4096.size a := by
    intro a
    match a with
    | 0 => rw [s0, w0]; exact ⟨by omega, show (r.val : ℤ) + ((0 : ℕ) : ℤ) < ((4096 : ℕ) : ℤ) by omega⟩
    | 1 => rw [s1, w1]; exact ⟨by omega, show (q.val : ℤ) + ((0 : ℕ) : ℤ) < ((4096 : ℕ) : ℤ) by omega⟩
  unfold ScatterDims.resultIdx?
  rw [dif_pos inb]
  refine congrArg some (funext fun a => Fin.ext ?_)
  match a with
  | 0 => exact (congrArg Int.toNat (by rw [s0, w0]; rfl)).trans (Int.toNat_natCast r.val)
  | 1 => exact (congrArg Int.toNat (by rw [s1, w1]; rfl)).trans (Int.toNat_natCast q.val)

variable (A : Fin 4096 → Fin 128 → ℝ) (L : Fin 4096 → BitVec 32)
  (x : FVec Ideal S4096x128 .f32) (l : IVec S4096 32)

theorem simAll_at (hx : ∀ (q : Fin 4096) (d : Fin 128), (x (ix2 q d) : EReal) = ((A q d : ℝ) : EReal)) (r q : Fin 4096) :
    (simAll x (ix2 r q) : EReal) = ((Loss.sim A r q : ℝ) : EReal) := by
  pointwise [simAll]
  exact Loss.sim_quotient A r q _ _ (fun d => hx r d) fun d => hx q d

theorem eye_at (r q : Fin 4096) : eye (ix2 r q) = 1#1 ↔ r = q := by
  pointwise [eye]
  exact Words.diagonal r q

theorem equalLabels_at (hl : ∀ q : Fin 4096, l (ix1 q) = L q) (r q : Fin 4096) :
    equalLabels l (ix2 r q) = 1#1 ↔ L r = L q := by
  pointwise [equalLabels]
  rw [Words.word_eq, hl, hl]
  exact eq_comm

open Classical in
theorem posMask_at (hl : ∀ q : Fin 4096, l (ix1 q) = L q) (r q : Fin 4096) :
    ((posMask l : FVec Ideal S4096x4096 .f32) (ix2 r q) : EReal) = if Loss.Pos L r q then 1 else 0 := by
  have he := eye_at r q
  have hs := equalLabels_at L l hl r q
  pointwise [posMask]
  unfold Scalar.select Loss.Pos
  by_cases e : r = q
  · rw [if_pos (show eye (ix2 r q) = 1 from he.2 e), if_neg fun h => h.2 e.symm]
    exact Ideal.ofBits_zero .f32
  · rw [if_neg (show ¬eye (ix2 r q) = 1 from fun h => e (he.1 h))]
    by_cases h : L r = L q
    · rw [if_pos ⟨h, fun h' => e h'.symm⟩, hs.2 h]
      change (((1#1 : BitVec 1).toNat : ℝ) : EReal) = 1
      simp
    · rw [if_neg fun h' => h h'.1]
      have h0 : equalLabels l (ix2 r q) = 0#1 :=
        (by decide : ∀ w : BitVec 1, ¬w = 1#1 → w = 0#1) _ fun h' => h (hs.1 h')
      rw [h0]
      change (((0#1 : BitVec 1).toNat : ℝ) : EReal) = 0
      simp

theorem negSims_at (hx : ∀ (q : Fin 4096) (d : Fin 128), (x (ix2 q d) : EReal) = ((A q d : ℝ) : EReal))
    (hl : ∀ q : Fin 4096, l (ix1 q) = L q) (r q : Fin 4096) : (negSims x l (ix2 r q) : EReal) = Loss.shown A L r q := by
  have hp := posMask_at L l hl r q
  have hs := simAll_at A x hx r q
  pointwise [negSims]
  rw [hs]
  classical
  have hc : (id (cmpf .une (posMask l : FVec Ideal S4096x4096 .f32)
      (broadcastInDim S4096x4096 ![] bcast_S_S4096x4096 (constant S_ .f32 0x00000000#32))) (ix2 r q) : BitVec 1)
      = if Loss.Pos L r q then 1#1 else 0#1 := by
    change Ideal.cmp .une ((posMask l : FVec Ideal S4096x4096 .f32) (ix2 r q)) (Ideal.ofBits .f32 0x00000000#32) = _
    rw [hp, show Ideal.ofBits .f32 0x00000000#32 = 0 from Ideal.ofBits_zero .f32]
    by_cases h : Loss.Pos L r q
    · rw [if_pos h, if_pos h]
      simp [Ideal.cmp]
    · rw [if_neg h, if_neg h]
      simp [Ideal.cmp]
  rw [hc]
  unfold Scalar.select Loss.shown
  by_cases h : Loss.Pos L r q
  · rw [if_pos h, if_pos h, if_pos (show (1#1 : BitVec 1) = 1 from rfl)]
    exact Consts.bits_mask
  · rw [if_neg h, if_neg h, if_neg (by decide)]

theorem wrapped (n : ℕ) (hn : n < 4096) :
    (Scalar.select (IntOp.cmpi .slt (BitVec.ofNat 32 n) 0#32) (IntOp.addi (BitVec.ofNat 32 n) 4096#32) (BitVec.ofNat 32 n)).toInt
      = (n : ℤ) := by
  have e : (BitVec.ofNat 32 n).toInt = (n : ℤ) := by
    rw [BitVec.toInt_eq_toNat_of_lt (by rw [BitVec.toNat_ofNat]; omega), BitVec.toNat_ofNat, Nat.mod_eq_of_lt (by omega)]
  have h : IntOp.cmpi .slt (BitVec.ofNat 32 n) 0#32 = 0#1 := by
    change BitVec.ofBool (BitVec.slt _ _) = _
    have : BitVec.slt (BitVec.ofNat 32 n) 0#32 = false := by
      unfold BitVec.slt
      rw [e]
      exact decide_eq_false (by simp)
    rw [this]
    rfl
  rw [h]
  exact e

theorem places_at (h : IVec S4096x3 32) (r : Fin 4096) (k : Fin 3) (q : Fin 4096) (e : h (ix2 r k) = BitVec.ofNat 32 q.val) :
    (places h (ix3 r k 0)).toInt = r.val ∧ (places h (ix3 r k 1)).toInt = q.val := by
  constructor
  · pointwise [places, rowIdx, colIdx]
    exact wrapped r.val r.isLt
  · pointwise [places, rowIdx, colIdx]
    rw [e]
    exact wrapped q.val q.isLt

open Classical in
/-- The mask of the negatives, at a row whose three columns are known. -/
theorem negMask_at (h : IVec S4096x3 32) (π : Fin 4096 → Fin 3 → Fin 4096) (e : ∀ r k, h (ix2 r k) = BitVec.ofNat 32 (π r k).val)
    (r q : Fin 4096) :
    ((negMask h : FVec Ideal S4096x4096 .f32) (ix2 r q) : EReal) = if ∃ k, π r k = q then 1 else 0 := by
  have land : ∀ r k, scatter_S4096x4096_S4096x3x2_S4096x3_n_01_01_2.resultIdx? (ix2 r k) (places h) = some (ix2 r (π r k)) :=
    fun r k => lands (places h) r k (π r k) (places_at h r k (π r k) (e r k)).1 (places_at h r k (π r k) (e r k)).2
  unfold negMask
  by_cases hq : ∃ k, π r k = q
  · rw [if_pos hq]
    obtain ⟨k, rfl⟩ := hq
    refine Routing.scatter_set_hit _ _ _ _ _ _ (fun j _ => ?_) (ix2 r k) (land r k)
    exact Consts.bits_one
  · rw [if_neg hq, Routing.scatter_set_miss]
    · exact Ideal.ofBits_zero .f32
    · intro j hj
      obtain ⟨r', k, rfl⟩ : ∃ r' k, j = ix2 r' k := ⟨j 0, j 1, by funext a; match a with | 0 => rfl | 1 => rfl⟩
      rw [land] at hj
      have hj := Option.some.inj hj
      have h0 : r' = r := congrFun hj 0
      have h1 : π r' k = q := congrFun hj 1
      exact hq ⟨k, h0 ▸ h1⟩

theorem total_at (s w : FVec Ideal S4096x4096 .f32) (r : Fin 4096) :
    (total s w (ix1 r) : EReal) = (∑ q : Fin 4096, Ideal.exp (s (ix2 r q)) * (w (ix2 r q) : EReal)) + ((Consts.eps : ℝ) : EReal) := by
  pointwise [total]
  rw [Consts.bits_eps]

theorem rowLoss_at (p n : FVec Ideal S4096 .f32) (r : Fin 4096) :
    (rowLoss p n (ix1 r) : EReal) = -Ideal.log (Ideal.div (p (ix1 r)) ((p (ix1 r) : EReal) + (n (ix1 r) : EReal))) := by
  pointwise [rowLoss]

theorem mean_at (v : FVec Ideal S4096 .f32) :
    (mean v ix0 : EReal) = Ideal.div (∑ r : Fin 4096, (v (ix1 r) : EReal)) ((4096 : ℝ) : EReal) := by
  pointwise [mean]
  rw [Consts.bits_count]

/-- A sum picked at three different columns. -/
theorem sum_three (f : Fin 4096 → ℝ) (π : Fin 3 → Fin 4096) (hπ : ∀ k k', π k = π k' → k = k') :
    ∑ q : Fin 4096, (((f q : ℝ) : EReal) * (open Classical in if ∃ k, π k = q then 1 else 0)) = ((f (π 0) + f (π 1) + f (π 2) : ℝ) : EReal) := by
  classical
  have e : ∀ q, ((f q : ℝ) : EReal) * (if ∃ k, π k = q then 1 else 0) = (((if ∃ k, π k = q then f q else 0) : ℝ) : EReal) := by
    intro q
    split_ifs
    · rw [mul_one]
    · rw [mul_zero]; rfl
  have im : Finset.univ.filter (fun q => ∃ k, π k = q) = Finset.univ.image π := by
    ext q
    simp
  rw [← Fin.sum_univ_three (fun k => f (π k)), ← Finset.sum_image (f := f) (s := Finset.univ) (g := π) fun k _ k' _ h => hπ k k' h,
    ← im, Finset.sum_filter, ← Loss.sum_coe]
  exact Finset.sum_congr rfl fun q _ => by convert e q

/-- The reference's result: the mean of the rows' losses, of the three hardest negatives. -/
theorem whole_at (hx : ∀ (q : Fin 4096) (d : Fin 128), (x (ix2 q d) : EReal) = ((A q d : ℝ) : EReal))
    (hl : ∀ q : Fin 4096, l (ix1 q) = L q) :
    (whole x l ix0 : EReal) = (((∑ r, Loss.loss A L r (Loss.hardest A L r)) * (1 / 4096) : ℝ) : EReal) := by
  classical
  have row : ∀ r, (fun q => (negSims x l (ix2 r q) : EReal)) = Loss.shown A L r := fun r => funext fun q => negSims_at A L x l hx hl r q
  have hc : ∀ r k, hardest x l (ix2 r k) = BitVec.ofNat 32 (Loss.hardest A L r k).val := by
    intro r k
    have e := TopK.cols_at (by decide) (negSims x l) sliceFits_S4096x4096_S4096x3 r k
    rw [row] at e
    exact e
  have hp : ∀ r, (total (simAll x) (posMask l) (ix1 r) : EReal) = ((Loss.posTotal A L r : ℝ) : EReal) := by
    intro r
    rw [total_at, Loss.posTotal, EReal.coe_add, ← Loss.sum_coe]
    refine congrArg (· + ((Consts.eps : ℝ) : EReal)) (Finset.sum_congr rfl fun q _ => ?_)
    rw [simAll_at A x hx, posMask_at L l hl, Ideal.exp_coe, Loss.share]
    by_cases h : Loss.Pos L r q
    · rw [if_pos h, if_pos h, mul_one]
    · rw [if_neg h, if_neg h, mul_zero]; rfl
  have hn : ∀ r, (total (simAll x) (negMask (hardest x l)) (ix1 r) : EReal)
      = ((Loss.negTotal A r (Loss.hardest A L r) : ℝ) : EReal) := by
    intro r
    rw [total_at, Loss.negTotal, EReal.coe_add,
      ← sum_three (fun q => Real.exp (Loss.sim A r q)) (Loss.hardest A L r) (TopK.first_inj (by decide) (Loss.shown A L r))]
    refine congrArg (· + ((Consts.eps : ℝ) : EReal)) (Finset.sum_congr rfl fun q _ => ?_)
    rw [simAll_at A x hx, negMask_at _ (Loss.hardest A L) hc, Ideal.exp_coe]
  have hr : ∀ r, (rowLoss (total (simAll x) (posMask l)) (total (simAll x) (negMask (hardest x l))) (ix1 r) : EReal)
      = ((Loss.loss A L r (Loss.hardest A L r) : ℝ) : EReal) := by
    intro r
    have p0 := Loss.posTotal_pos A L r
    have n0 := Loss.negTotal_pos A r (Loss.hardest A L r)
    rw [rowLoss_at, hp, hn, ← EReal.coe_add, Ideal.div_coe (add_pos p0 n0).ne', ← EReal.coe_mul, mul_one_div,
      Loss.log_pos _ (div_pos p0 (add_pos p0 n0)), ← EReal.coe_neg, Loss.loss_quotient]
  unfold whole
  rw [mean_at, Finset.sum_congr rfl fun r _ => hr r, Loss.sum_coe, Ideal.div_coe (by norm_num), ← EReal.coe_mul]

end Cert.ReferenceIdeal.Steps

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_mined
public import proofs.«01_k».proof.Proof.Final
public import proofs.«01_k».proof.Proof.Ref
public import Idealize.ShloMosaic.Lib.Claim

@[expose] public section

noncomputable section

namespace Cert.Proof

open Idealize.ShloMosaic

/-- The reference runs and leaves its arguments as they were. -/
theorem frame_reference : Cert.quiescent_ReferenceIdeal (hReferenceIdeal := Cert.ReferenceIdeal.Gen.facts) := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

/-- Under the precondition the kernel and the reference end with equal results. -/
theorem algebraic : Cert.algebraic_KernelIdeal_ReferenceIdeal_pre_mined (hKernelIdeal := Cert.KernelIdeal.Gen.facts)
    (hReferenceIdeal := Cert.ReferenceIdeal.Gen.facts) (hPre_mined := Cert.Pre_mined.Gen.facts) := by
  pair_intro
  · run_from Cert.KernelIdeal.Gen.run_main m g
    exact Cert.KernelIdeal.Gen.W_main_arg1 m (Cert.KernelIdeal.Gen.dats m) c
  · run_from Cert.ReferenceIdeal.Value.run m' g'
    have finite := (Cert.Pre_mined.Steps.decode _ _ (hpre c)).1
    funext j
    refine Eq.trans ?_ (Cert.KernelIdeal.Body.result m c (hpre c) _ finite j).symm
    refine (congrFun (Cert.ReferenceIdeal.Steps.res_eq m' c) j).trans ?_
    rw [(hagree c).1, (hagree c).2]
    refine (congrArg _ (funext fun a => a.elim0)).trans
      (Cert.ReferenceIdeal.Steps.whole_at _ (fun q => Cert.KernelIdeal.Body.labs m c (ix1 q)) _ _ finite fun _ => rfl)

/-- The certificate's claims. -/
theorem claim : Cert.Claim :=
  ⟨Cert.Kernel.Gen.facts, Cert.KernelIdeal.Gen.facts, Cert.ReferenceIdeal.Gen.facts, Cert.Pre_mined.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    IdealRules.named_const.statement Cert.KernelIdeal.κ "log2e_over_t" .f32 0x4166D4CA#32 _ rfl,
    algebraic⟩

end Cert.Proof

end
